-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![8192, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![8192, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![8192, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x256 : Shape := ⟨2, ![1024, 256]⟩
abbrev S256x32 : Shape := ⟨2, ![256, 32]⟩
abbrev S1024x2 : Shape := ⟨2, ![1024, 2]⟩
abbrev S4x256x512 : Shape := ⟨3, ![4, 256, 512]⟩
abbrev S_ : Shape := ⟨0, ![]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S1024x256 .f32) (main_arg1 : FVec F S256x32 .f32) (main_arg2 : IVec S1024x2 32) (main_arg3 : FVec F S4x256x512 .f32) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 32#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_c_1 : IVec S_ 1 := constantI S_ 1 1#1
  let main_v5 : IVec S_ 1 := (fun x v => Host.reduce IntOp.andi x v reducesTo_S1024x2_S_d0_1 h_S_) main_v4 main_c_1
  let main_v6 : FVec F S1024x256 .f32 := Host.absf main_arg0
  let main_cst : FVec F S_ .f32 := constant S_ .f32 0x7F800000#32
  let main_v7 : FVec F S1024x256 .f32 := broadcastInDim S1024x256 ![] bcast_S_S1024x256 main_cst
  let main_v8 : IVec S1024x256 1 := cmpf .olt main_v6 main_v7
  let main_c_2 : IVec S_ 1 := constantI S_ 1 1#1
  let main_v9 : IVec S_ 1 := (fun x v => Host.reduce IntOp.andi x v reducesTo_S1024x256_S_d0_1 h_S_) main_v8 main_c_2
  let main_v10 : IVec S_ 1 := andi main_v5 main_v9
  let main_v11 : FVec F S256x32 .f32 := Host.absf main_arg1
  let main_cst_3 : FVec F S_ .f32 := constant S_ .f32 0x7F800000#32
  let main_v12 : FVec F S256x32 .f32 := broadcastInDim S256x32 ![] bcast_S_S256x32 main_cst_3
  let main_v13 : IVec S256x32 1 := cmpf .olt main_v11 main_v12
  let main_c_4 : IVec S_ 1 := constantI S_ 1 1#1
  let main_v14 : IVec S_ 1 := (fun x v => Host.reduce IntOp.andi x v reducesTo_S256x32_S_d0_1 h_S_) main_v13 main_c_4
  let main_v15 : IVec S_ 1 := andi main_v10 main_v14
  main_v15
-- ==== Pre_routed_ReferenceIdeal.lean ====
abbrev S8192x256 : Shape := ⟨2, ![8192, 256]⟩
abbrev S256x32 : Shape := ⟨2, ![256, 32]⟩
abbrev S8192x2 : Shape := ⟨2, ![8192, 2]⟩
abbrev S32x256x512 : Shape := ⟨3, ![32, 256, 512]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S8192x256 .f32) (main_arg1 : FVec F S256x32 .f32) (main_arg2 : IVec S8192x2 32) (main_arg3 : FVec F S32x256x512 .f32) : IVec S_ 1 :=
  let main_c : IVec S_ 32 := constantI S_ 32 0#32
  let main_v0 : IVec S8192x2 32 := broadcastInDim S8192x2 ![] bcast_S_S8192x2 main_c
  let main_v1 : IVec S8192x2 1 := cmpi .sge main_arg2 main_v0
  let main_c_0 : IVec S_ 32 := constantI S_ 32 32#32
  let main_v2 : IVec S8192x2 32 := broadcastInDim S8192x2 ![] bcast_S_S8192x2 main_c_0
  let main_v3 : IVec S8192x2 1 := cmpi .slt main_arg2 main_v2
  let main_v4 : IVec S8192x2 1 := andi main_v1 main_v3
  let main_c_1 : IVec S_ 1 := constantI S_ 1 1#1
  let main_v5 : IVec S_ 1 := (fun x v => Host.reduce IntOp.andi x v reducesTo_S8192x2_S_d0_1 h_S_) main_v4 main_c_1
  let main_v6 : FVec F S8192x256 .f32 := Host.absf main_arg0
  let main_cst : FVec F S_ .f32 := constant S_ .f32 0x7F800000#32
  let main_v7 : FVec F S8192x256 .f32 := broadcastInDim S8192x256 ![] bcast_S_S8192x256 main_cst
  let main_v8 : IVec S8192x256 1 := cmpf .olt main_v6 main_v7
  let main_c_2 : IVec S_ 1 := constantI S_ 1 1#1
  let main_v9 : IVec S_ 1 := (fun x v => Host.reduce IntOp.andi x v reducesTo_S8192x256_S_d0_1 h_S_) main_v8 main_c_2
  let main_v10 : IVec S_ 1 := andi main_v5 main_v9
  let main_v11 : FVec F S256x32 .f32 := Host.absf main_arg1
  let main_cst_3 : FVec F S_ .f32 := constant S_ .f32 0x7F800000#32
  let main_v12 : FVec F S256x32 .f32 := broadcastInDim S256x32 ![] bcast_S_S256x32 main_cst_3
  let main_v13 : IVec S256x32 1 := cmpf .olt main_v11 main_v12
  let main_c_4 : IVec S_ 1 := constantI S_ 1 1#1
  let main_v14 : IVec S_ 1 := (fun x v => Host.reduce IntOp.andi x v reducesTo_S256x32_S_d0_1 h_S_) main_v13 main_c_4
  let main_v15 : IVec S_ 1 := andi main_v10 main_v14
  main_v15
-- ==== Kernel.lean ====
abbrev S1024x256 : Shape := ⟨2, ![1024, 256]⟩
abbrev S256x32 : Shape := ⟨2, ![256, 32]⟩
abbrev S1024x2 : Shape := ⟨2, ![1024, 2]⟩
abbrev S4x256x512 : Shape := ⟨3, ![4, 256, 512]⟩
abbrev S1024x512 : Shape := ⟨2, ![1024, 512]⟩
abbrev S8x4x256x512 : Shape := ⟨4, ![8, 4, 256, 512]⟩
abbrev S21 : Shape := ⟨1, ![21]⟩
abbrev S_ : Shape := ⟨0, ![]⟩
abbrev S1 : Shape := ⟨1, ![1]⟩
abbrev S1x4x80x512 : Shape := ⟨4, ![1, 4, 80, 512]⟩
abbrev S4x80x512 : Shape := ⟨3, ![4, 80, 512]⟩
abbrev S1x4x96x512 : Shape := ⟨4, ![1, 4, 96, 512]⟩
abbrev S4x96x512 : Shape := ⟨3, ![4, 96, 512]⟩
abbrev S1024x32 : Shape := ⟨2, ![1024, 32]⟩
abbrev S1024 : Shape := ⟨1, ![1024]⟩
abbrev S1024x1 : Shape := ⟨2, ![1024, 1]⟩
abbrev S1x256x512 : Shape := ⟨3, ![1, 256, 512]⟩
abbrev S256x512 : Shape := ⟨2, ![256, 512]⟩
abbrev S1x4x256x512 : Shape := ⟨4, ![1, 4, 256, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x2, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S256x32, .f32⟩
  | .local _ .vmem, ⟨2, _⟩ => ⟨S1024x2, .i32⟩
  | .local _ .vmem, ⟨3, _⟩ => ⟨S4x256x512, .f32⟩
  | .local _ .vmem, ⟨4, _⟩ => ⟨S1024x512, .f32⟩
  | .local _ .vmem, ⟨5, _⟩ => ⟨S8x4x256x512, .bf16⟩
  | .local _ .vmem, ⟨6, _⟩ => ⟨S4x256x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v19 : BitVec 32 := Scalar.xori v2 c1_i32_15
  let c1_i32_39 : BitVec 32 := 1#32
  let v40 : BitVec 32 := Scalar.muli v19 c1_i32_39
  let v41 : BitVec 32 := Scalar.addi c0_i32_40 v40
  v41.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_16 : BitVec 32 := 3#32
  let v20 : BitVec 32 := Scalar.xori v2 c3_i32_16
  let c1_i32_49 : BitVec 32 := 1#32
  let v49 : BitVec 32 := Scalar.muli v20 c1_i32_49
  let v50 : BitVec 32 := Scalar.addi c0_i32_50 v49
  v50.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v21 : BitVec 32 := Scalar.xori v2 c4_i32_17
  let c1_i32_58 : BitVec 32 := 1#32
  let v58 : BitVec 32 := Scalar.muli v21 c1_i32_58
  let v59 : BitVec 32 := Scalar.addi c0_i32_59 v58
  v59.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_18 : BitVec 32 := 3#32
  let v22 : BitVec 32 := Scalar.xori v2 c3_i32_18
  let c1_i32_68 : BitVec 32 := 1#32
  let v67 : BitVec 32 := Scalar.muli v22 c1_i32_68
  let v68 : BitVec 32 := Scalar.addi c0_i32_69 v67
  v68.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v23 : BitVec 32 := Scalar.xori v2 c4_i32_19
  let c1_i32_79 : BitVec 32 := 1#32
  let v76 : BitVec 32 := Scalar.muli v23 c1_i32_79
  let v77 : BitVec 32 := Scalar.addi c0_i32_80 v76
  v77.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v24 : BitVec 32 := Scalar.xori v2 c1_i32_20
  let c1_i32_89 : BitVec 32 := 1#32
  let v85 : BitVec 32 := Scalar.muli v24 c1_i32_89
  let v86 : BitVec 32 := Scalar.addi c0_i32_90 v85
  v86.toNat
def k0_dev10 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_24 : BitVec 32 := 4#32
  let v28 : BitVec 32 := Scalar.xori v2 c4_i32_24
  let c1_i32_100 : BitVec 32 := 1#32
  let v94 : BitVec 32 := Scalar.muli v28 c1_i32_100
  let v95 : BitVec 32 := Scalar.addi c0_i32_101 v94
  v95.toNat
def k0_dev11 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v29 : BitVec 32 := Scalar.xori v2 c1_i32_25
  let c1_i32_110 : BitVec 32 := 1#32
  let v103 : BitVec 32 := Scalar.muli v29 c1_i32_110
  let v104 : BitVec 32 := Scalar.addi c0_i32_111 v103
  v104.toNat
def k0_dev12 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_26 : BitVec 32 := 3#32
  let v30 : BitVec 32 := Scalar.xori v2 c3_i32_26
  let c1_i32_120 : BitVec 32 := 1#32
  let v112 : BitVec 32 := Scalar.muli v30 c1_i32_120
  let v113 : BitVec 32 := Scalar.addi c0_i32_121 v112
  v113.toNat
def k0_dev13 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_21 : BitVec 32 := 3#32
  let v25 : BitVec 32 := Scalar.xori v2 c3_i32_21
  let c1_i32_190 : BitVec 32 := 1#32
  let v242 : BitVec 32 := Scalar.muli v25 c1_i32_190
  let v243 : BitVec 32 := Scalar.addi c0_i32_191 v242
  v243.toNat
def k0_dev14 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_27 : BitVec 32 := 4#32
  let v31 : BitVec 32 := Scalar.xori v2 c4_i32_27
  let c1_i32_201 : BitVec 32 := 1#32
  let v252 : BitVec 32 := Scalar.muli v31 c1_i32_201
  let v253 : BitVec 32 := Scalar.addi c0_i32_202 v252
  v253.toNat
def k0_dev15 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v26 : BitVec 32 := Scalar.xori v2 c4_i32_22
  let c1_i32_233 : BitVec 32 := 1#32
  let v274 : BitVec 32 := Scalar.muli v26 c1_i32_233
  let v275 : BitVec 32 := Scalar.addi c0_i32_234 v274
  v275.toNat
def k0_dev16 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v32 : BitVec 32 := Scalar.xori v2 c1_i32_28
  let c1_i32_244 : BitVec 32 := 1#32
  let v284 : BitVec 32 := Scalar.muli v32 c1_i32_244
  let v285 : BitVec 32 := Scalar.addi c0_i32_245 v284
  v285.toNat
def k0_dev17 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v27 : BitVec 32 := Scalar.xori v2 c1_i32_23
  let c1_i32_276 : BitVec 32 := 1#32
  let v306 : BitVec 32 := Scalar.muli v27 c1_i32_276
  let v307 : BitVec 32 := Scalar.addi c0_i32_277 v306
  v307.toNat
def k0_dev18 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v33 : BitVec 32 := Scalar.xori v2 c3_i32_29
  let c1_i32_287 : BitVec 32 := 1#32
  let v316 : BitVec 32 := Scalar.muli v33 c1_i32_287
  let v317 : BitVec 32 := Scalar.addi c0_i32_288 v316
  v317.toNat
def k0_dev19 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v34 : BitVec 32 := Scalar.xori v2 c4_i32_30
  let c1_i32_320 : BitVec 32 := 1#32
  let v338 : BitVec 32 := Scalar.muli v34 c1_i32_320
  let v339 : BitVec 32 := Scalar.addi c0_i32_321 v338
  v339.toNat
def k0_dev20 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v35 : BitVec 32 := Scalar.xori v2 c1_i32_31
  let c1_i32_352 : BitVec 32 := 1#32
  let v360 : BitVec 32 := Scalar.muli v35 c1_i32_352
  let v361 : BitVec 32 := Scalar.addi c0_i32_353 v360
  v361.toNat
def k0_dev21 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_32 : BitVec 32 := 3#32
  let v36 : BitVec 32 := Scalar.xori v2 c3_i32_32
  let c1_i32_384 : BitVec 32 := 1#32
  let v382 : BitVec 32 := Scalar.muli v36 c1_i32_384
  let v383 : BitVec 32 := Scalar.addi c0_i32_385 v382
  v383.toNat
def k0_dev22 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v37 : BitVec 32 := Scalar.xori v2 c4_i32_33
  let c1_i32_418 : BitVec 32 := 1#32
  let v406 : BitVec 32 := Scalar.muli v37 c1_i32_418
  let v407 : BitVec 32 := Scalar.addi c0_i32_419 v406
  v407.toNat
def k0_dev23 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v38 : BitVec 32 := Scalar.xori v2 c1_i32_34
  let c1_i32_452 : BitVec 32 := 1#32
  let v430 : BitVec 32 := Scalar.muli v38 c1_i32_452
  let v431 : BitVec 32 := Scalar.addi c0_i32_453 v430
  v431.toNat
def k0_dev24 (d0 : Dev nD) : Nat :=
  let c0_i32_487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_35 : BitVec 32 := 3#32
  let v39 : BitVec 32 := Scalar.xori v2 c3_i32_35
  let c1_i32_486 : BitVec 32 := 1#32
  let v454 : BitVec 32 := Scalar.muli v39 c1_i32_486
  let v455 : BitVec 32 := Scalar.addi c0_i32_487 v454
  v455.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x256 : Shape := ⟨2, ![8192, 256]⟩
abbrev S256x32 : Shape := ⟨2, ![256, 32]⟩
abbrev S8192x2 : Shape := ⟨2, ![8192, 2]⟩
abbrev S32x256x512 : Shape := ⟨3, ![32, 256, 512]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S8192x32x512 : Shape := ⟨3, ![8192, 32, 512]⟩
abbrev S8192x1x512 : Shape := ⟨3, ![8192, 1, 512]⟩
abbrev S8192x512 : Shape := ⟨2, ![8192, 512]⟩

abbrev nBuf : Space → Nat
  | .hbm => 119
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x32, .f32⟩
  | .hbm, ⟨2, _⟩ => ⟨S8192x2, .i32⟩
  | .hbm, ⟨3, _⟩ => ⟨S32x256x512, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x32, .f32⟩
  | .hbm, ⟨15, _⟩ => ⟨S8192x32, .f32⟩
  | .hbm, ⟨16, _⟩ => ⟨S8192x1, .i32⟩
  | .hbm, ⟨17, _⟩ => ⟨S8192x1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x1, .i32⟩
  | .hbm, ⟨25, _⟩ => ⟨S8192x1x1, .i32⟩
  | .hbm, ⟨26, _⟩ => ⟨S1, .i32⟩
  | .hbm, ⟨27, _⟩ => ⟨S_, .i32⟩
  | .hbm, ⟨28, _⟩ => ⟨S8192x1x1, .i32⟩
  | .hbm, ⟨29, _⟩ => ⟨S8192x1x1, .i1⟩
  | .hbm, ⟨30, _⟩ => ⟨S1x1x1, .i32⟩
  | .hbm, ⟨31, _⟩ => ⟨S8192x1x1, .i32⟩
  | .hbm, ⟨32, _⟩ => ⟨S8192x1x1, .i1⟩
  | .hbm, ⟨33, _⟩ => ⟨S8192x1x1, .i1⟩
  | .hbm, ⟨34, _⟩ => ⟨S_, .i1⟩
  | .hbm, ⟨35, _⟩ => ⟨S8192x1, .i1⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .i32⟩
  | .hbm, ⟨41, _⟩ => ⟨S8192x1, .i32⟩
  | .hbm, ⟨42, _⟩ => ⟨S8192x1, .i1⟩
  | .hbm, ⟨43, _⟩ => ⟨S_, .i32⟩
  | .hbm, ⟨44, _⟩ => ⟨S8192x1, .i32⟩
  | .hbm, ⟨45, _⟩ => ⟨S8192x1, .i32⟩
  | .hbm, ⟨46, _⟩ => ⟨S8192x1, .i32⟩
  | .hbm, ⟨47, _⟩ => ⟨S8192x1x1, .i32⟩
  | .hbm, ⟨48, _⟩ => ⟨S1, .i32⟩
  | .hbm, ⟨49, _⟩ => ⟨S_, .i32⟩
  | .hbm, ⟨50, _⟩ => ⟨S8192x1x1, .i32⟩
  | .hbm, ⟨51, _⟩ => ⟨S8192x1x1, .i1⟩
  | .hbm, ⟨52, _⟩ => ⟨S1x1x1, .i32⟩
  | .hbm, ⟨53, _⟩ => ⟨S8192x1x1, .i32⟩
  | .hbm, ⟨54, _⟩ => ⟨S8192x1x1, .i1⟩
  | .hbm, ⟨55, _⟩ => ⟨S8192x1x1, .i1⟩
  | .hbm, ⟨56, _⟩ => ⟨S_, .i1⟩
  | .hbm, ⟨57, _⟩ => ⟨S8192x1, .i1⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x32x512, .f32⟩
  | .hbm, ⟨64, _⟩ => ⟨S8192x1x1, .i32⟩
  | .hbm, ⟨65, _⟩ => ⟨S_, .i32⟩
  | .hbm, ⟨66, _⟩ => ⟨S8192x1x1, .i32⟩
  | .hbm, ⟨67, _⟩ => ⟨S8192x1x1, .i1⟩
  | .hbm, ⟨68, _⟩ => ⟨S_, .i32⟩
  | .hbm, ⟨69, _⟩ => ⟨S8192x1x1, .i32⟩
  | .hbm, ⟨70, _⟩ => ⟨S8192x1x1, .i32⟩
  | .hbm, ⟨71, _⟩ => ⟨S8192x1x1, .i32⟩
  | .hbm, ⟨72, _⟩ => ⟨S1, .i32⟩
  | .hbm, ⟨73, _⟩ => ⟨S_, .i32⟩
  | .hbm, ⟨74, _⟩ => ⟨S8192x1x1, .i32⟩
  | .hbm, ⟨75, _⟩ => ⟨S8192x1x1, .i1⟩
  | .hbm, ⟨76, _⟩ => ⟨S1x1x1, .i32⟩
  | .hbm, ⟨77, _⟩ => ⟨S8192x1x1, .i32⟩
  | .hbm, ⟨78, _⟩ => ⟨S8192x1x1, .i1⟩
  | .hbm, ⟨79, _⟩ => ⟨S8192x1x1, .i1⟩
  | .hbm, ⟨80, _⟩ => ⟨S_, .i1⟩
  | .hbm, ⟨81, _⟩ => ⟨S8192x1, .i1⟩
  | .hbm, ⟨82, _⟩ => ⟨S8192x1x512, .f32⟩
  | .hbm, ⟨83, _⟩ => ⟨S8192x1x512, .i1⟩
  | .hbm, ⟨84, _⟩ => ⟨S_, .f32⟩
  | .hbm, ⟨85, _⟩ => ⟨S8192x1x512, .f32⟩
  | .hbm, ⟨86, _⟩ => ⟨S8192x1x512, .f32⟩
  | .hbm, ⟨87, _⟩ => ⟨S8192x512, .f32⟩
  | .hbm, ⟨88, _⟩ => ⟨S8192x1x1, .i32⟩
  | .hbm, ⟨89, _⟩ => ⟨S_, .i32⟩
  | .hbm, ⟨90, _⟩ => ⟨S8192x1x1, .i32⟩
  | .hbm, ⟨91, _⟩ => ⟨S8192x1x1, .i1⟩
  | .hbm, ⟨92, _⟩ => ⟨S_, .i32⟩
  | .hbm, ⟨93, _⟩ => ⟨S8192x1x1, .i32⟩
  | .hbm, ⟨94, _⟩ => ⟨S8192x1x1, .i32⟩
  | .hbm, ⟨95, _⟩ => ⟨S8192x1x1, .i32⟩
  | .hbm, ⟨96, _⟩ => ⟨S1, .i32⟩
  | .hbm, ⟨97, _⟩ => ⟨S_, .i32⟩
  | .hbm, ⟨98, _⟩ => ⟨S8192x1x1, .i32⟩
  | .hbm, ⟨99, _⟩ => ⟨S8192x1x1, .i1⟩
  | .hbm, ⟨100, _⟩ => ⟨S1x1x1, .i32⟩
  | .hbm, ⟨101, _⟩ => ⟨S8192x1x1, .i32⟩
  | .hbm, ⟨102, _⟩ => ⟨S8192x1x1, .i1⟩
  | .hbm, ⟨103, _⟩ => ⟨S8192x1x1, .i1⟩
  | .hbm, ⟨104, _⟩ => ⟨S_, .i1⟩
  | .hbm, ⟨105, _⟩ => ⟨S8192x1, .i1⟩
  | .hbm, ⟨106, _⟩ => ⟨S8192x1x512, .f32⟩
  | .hbm, ⟨107, _⟩ => ⟨S8192x1x512, .i1⟩
  | .hbm, ⟨108, _⟩ => ⟨S_, .f32⟩
  | .hbm, ⟨109, _⟩ => ⟨S8192x1x512, .f32⟩
  | .hbm, ⟨110, _⟩ => ⟨S8192x1x512, .f32⟩
  | .hbm, ⟨111, _⟩ => ⟨S8192x512, .f32⟩
  | .hbm, ⟨112, _⟩ => ⟨S8192x1, .f32⟩
  | .hbm, ⟨113, _⟩ => ⟨S8192x512, .f32⟩
  | .hbm, ⟨114, _⟩ => ⟨S8192x512, .f32⟩
  | .hbm, ⟨115, _⟩ => ⟨S8192x1, .f32⟩
  | .hbm, ⟨116, _⟩ => ⟨S8192x512, .f32⟩
  | .hbm, ⟨117, _⟩ => ⟨S8192x512, .f32⟩
  | .hbm, ⟨118, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v12 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_cst : Ref sig .tc := ⟨.hbm, 59, rfl⟩
abbrev main_call1_v14 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_1 : Ref sig .tc := ⟨.hbm, 72, rfl⟩
abbrev main_call2_c_2 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_c_3 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_cst : Ref sig .tc := ⟨.hbm, 84, rfl⟩
abbrev main_call2_v14 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_c_1 : Ref sig .tc := ⟨.hbm, 96, rfl⟩
abbrev main_call3_c_2 : Ref sig .tc := ⟨.hbm, 97, rfl⟩
abbrev main_call3_v5 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_c_3 : Ref sig .tc := ⟨.hbm, 104, rfl⟩
abbrev main_call3_v11 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_v27 : Ref sig .tc := ⟨.hbm, 117, rfl⟩
abbrev main_v28 : Ref sig .tc := ⟨.hbm, 118, rfl⟩

abbrev nD : Nat := 1
abbrev τ : Topo := Topo.v7x

variable {F : FTy → Type} [FloatOps F]
-- ==== Proof.KernelIdeal.Layout.lean ====
/-
The exchange's fixed tables and the memory it moves through.

Eight devices sit at the corners of a cube whose three links join the numbers differing in the words 1, 3 and 4 (their
bitwise sums reach all eight). Every device gathers the other seven devices' experts into the seven last slots of one
buffer: slot `j` of device `c` ends up holding the experts of device `c ⊕ j`. The experts' rows are cut in three parts,
and each part travels by seven transfers of its own, 21 in all: transfer `s` moves the rows of part `s / 7` from a source
slot (0 standing for the device's own experts) over one link into a destination slot of the neighbour.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueLayout
public import Idealize.ShloMosaic.Lib.ViewIndex

@[expose] public section

noncomputable section

namespace Cert.KernelIdeal.Exchange

open Cert.KernelIdeal Cert.KernelIdeal.Gen
open Idealize.ShloMosaic Idealize.ShloMosaic.TcCoe Idealize.ShloMosaic.ValueIdx

variable {F : FTy → Type} [FloatOps F]

/-! ## The tables -/

/-- The word a link flips in a device's number. -/
def flip : Fin 3 → Fin 8 := ![1, 3, 4]
/-- The device at the other end of link `k` of `c`. -/
def across (c : Dev nD) (k : Fin 3) : Dev nD := c ^^^ flip k
/-- The device whose experts slot `j` of device `c` is for. -/
def home (c : Dev nD) (j : Fin 8) : Dev nD := c ^^^ j

/-- Transfer `s` moves the rows of this part, -/
def part (s : Fin 21) : Fin 3 := ![0, 0, 0, 0, 0, 0, 0, 1, 1, 1, 1, 1, 1, 1, 2, 2, 2, 2, 2, 2, 2] s
/-- over this link, -/
def link (s : Fin 21) : Fin 3 := ![0, 1, 1, 2, 2, 2, 2, 1, 2, 2, 0, 0, 0, 0, 2, 0, 0, 1, 1, 1, 1] s
/-- out of this slot (0: the device's own experts), -/
def src (s : Fin 21) : Fin 8 := ![0, 0, 1, 0, 1, 3, 2, 0, 0, 3, 0, 3, 4, 7, 0, 0, 4, 0, 4, 1, 5] s
/-- into this slot. -/
def dst (s : Fin 21) : Fin 8 := ![1, 3, 2, 4, 5, 7, 6, 3, 4, 7, 1, 2, 5, 6, 4, 1, 5, 3, 7, 2, 6] s

/-- The first row of a part, -/
def off : Fin 3 → ℕ := ![0, 80, 160]
/-- and how many it has. -/
def rows : Fin 3 → ℕ := ![80, 80, 96]

theorem across_across (c : Dev nD) (k : Fin 3) : across (across c k) k = c := by revert c k; decide
theorem home_zero (c : Dev nD) : home c 0 = c := by revert c; decide
/-- What a transfer carries is for the slot it lands in. -/
theorem home_across (c : Dev nD) (s : Fin 21) : home (across c (link s)) (dst s) = home c (src s) := by
  revert c s; decide

theorem rows_le (p : Fin 3) : off p + rows p ≤ 256 := by revert p; decide

/-! ## The two buffers, their parts -/

/-- The gathering buffer. -/
abbrev commM : Memref sig .tc .vmem S8x4x256x512 .bf16 := Memref.whole cc0_scratch0
/-- The device's own experts, rounded. -/
abbrev ownM : Memref sig .tc .vmem S4x256x512 .bf16 := Memref.whole cc0_scratch1

/-- A part of the four experts' rows. -/
abbrev Rows (p : Fin 3) : Shape := ⟨3, ![4, rows p, 512]⟩

theorem slot_inb (j : Fin 8) (p : Fin 3) : ∀ a, (![j.val, 0, off p, 0] : Fin 4 → ℕ) a + (![1, 4, rows p, 512] : Fin 4 → ℕ) a ≤ S8x4x256x512.size a := by
  revert j p; decide
theorem own_inb (p : Fin 3) : ∀ a, (![0, off p, 0] : Fin 3 → ℕ) a + (![4, rows p, 512] : Fin 3 → ℕ) a ≤ S4x256x512.size a := by
  revert p; decide
theorem rows_squeezes (p : Fin 3) : (⟨4, ![1, 4, rows p, 512]⟩ : Shape).Squeezes (Rows p) := by
  revert p; decide

/-- Part `p` of slot `j`, -/
abbrev slotRect (j : Fin 8) (p : Fin 3) : Rect S8x4x256x512 := Rect.unit (s := S8x4x256x512) ![j.val, 0, off p, 0] ![1, 4, rows p, 512] (slot_inb j p)
/-- of the device's own experts, -/
abbrev ownRect (p : Fin 3) : Rect S4x256x512 := Rect.unit (s := S4x256x512) ![0, off p, 0] ![4, rows p, 512] (own_inb p)

/-- and the memrefs of the two. -/
abbrev slotM (j : Fin 8) (p : Fin 3) : Memref sig .tc .vmem (Rows p) .bf16 :=
  (commM.slice (slotRect j p) (fun _ => rfl)).squeeze (Rows p) (rows_squeezes p)
abbrev ownPartM (p : Fin 3) : Memref sig .tc .vmem (Rows p) .bf16 := ownM.slice (ownRect p) (fun _ => rfl)

/-- An element of part `p` of slot `j`, in the whole buffer. -/
theorem slot_emb (j : Fin 8) (p : Fin 3) (x : Fin 4) (y : Fin (rows p)) (z : Fin 512) :
    (slotM j p).view.emb (ix3 x y z : (Rows p).Idx)
      = (ix4 j x (⟨off p + y.val, lt_of_lt_of_le (Nat.add_lt_add_left y.isLt _) (rows_le p)⟩ : Fin 256) z : S8x4x256x512.Idx) := by
  show (slotRect j p).emb (Shape.reshapeEquiv _ (ix3 x y z)) = _
  rw [reshapeEquiv_ix3_1abc]
  funext a
  refine Fin.ext ?_
  rw [Rect.emb_apply]
  fin_cases a
  · show j.val + 1 * 0 = j.val; rw [Nat.mul_zero, Nat.add_zero]
  · show 0 + 1 * x.val = x.val; rw [Nat.one_mul, Nat.zero_add]
  · show off p + 1 * y.val = off p + y.val; rw [Nat.one_mul]
  · show 0 + 1 * z.val = z.val; rw [Nat.one_mul, Nat.zero_add]

/-- An element of part `p` of the device's own experts. -/
theorem own_emb (p : Fin 3) (x : Fin 4) (y : Fin (rows p)) (z : Fin 512) :
    (ownPartM p).view.emb (ix3 x y z : (Rows p).Idx)
      = (ix3 x (⟨off p + y.val, lt_of_lt_of_le (Nat.add_lt_add_left y.isLt _) (rows_le p)⟩ : Fin 256) z : S4x256x512.Idx) := by
  show (ownRect p).emb (ix3 x y z) = _
  funext a
  refine Fin.ext ?_
  rw [Rect.emb_apply]
  fin_cases a
  · show 0 + 1 * x.val = x.val; rw [Nat.one_mul, Nat.zero_add]
  · show off p + 1 * y.val = off p + y.val; rw [Nat.one_mul]
  · show 0 + 1 * z.val = z.val; rw [Nat.one_mul, Nat.zero_add]

/-- Every index of a part is its three coordinates. -/
theorem rows_idx (p : Fin 3) (i : (Rows p).Idx) : ∃ (x : Fin 4) (y : Fin (rows p)) (z : Fin 512), i = ix3 x y z :=
  ⟨i 0, i 1, i 2, by funext a; fin_cases a <;> rfl⟩

/-! ## Which elements they are -/

abbrev slotSet (j : Fin 8) (p : Fin 3) : Finset S8x4x256x512.Idx := (slotM j p).view.set
abbrev ownSet (p : Fin 3) : Finset S4x256x512.Idx := (ownPartM p).view.set

/-- The part a row belongs to. -/
def partOf (y : ℕ) : Fin 3 := if y < 80 then 0 else if y < 160 then 1 else 2

theorem partOf_off (p : Fin 3) (y : ℕ) (h : y < rows p) : partOf (off p + y) = p := by
  unfold partOf
  fin_cases p
  · have : y < 80 := h
    show (if 0 + y < 80 then (0 : Fin 3) else _) = 0
    rw [if_pos (by omega)]
  · have : y < 80 := h
    show (if 80 + y < 80 then (0 : Fin 3) else if 80 + y < 160 then 1 else 2) = 1
    rw [if_neg (by omega), if_pos (by omega)]
  · have : y < 96 := h
    show (if 160 + y < 80 then (0 : Fin 3) else if 160 + y < 160 then 1 else 2) = 2
    rw [if_neg (by omega), if_neg (by omega)]

theorem partOf_split (y : Fin 256) : ∃ y' : Fin (rows (partOf y.val)), y.val = off (partOf y.val) + y'.val := by
  revert y; decide

/-- Part `p` of slot `j` is the elements whose slot is `j` and whose row is of part `p`. -/
theorem mem_slotSet (j : Fin 8) (p : Fin 3) (i : S8x4x256x512.Idx) : i ∈ slotSet j p ↔ i 0 = j ∧ partOf (i 2).val = p := by
  constructor
  · intro h
    obtain ⟨x, -, rfl⟩ := Finset.mem_map.mp h
    obtain ⟨x, y, z, rfl⟩ := rows_idx p x
    rw [slot_emb]
    exact ⟨rfl, partOf_off p y.val y.isLt⟩
  · rintro ⟨rfl, rfl⟩
    obtain ⟨y', hy⟩ := partOf_split (i 2)
    refine Finset.mem_map.mpr ⟨ix3 (i 1) y' (i 3), Finset.mem_univ _, (slot_emb (i 0) _ (i 1) y' (i 3)).trans ?_⟩
    funext a
    fin_cases a
    · rfl
    · rfl
    · exact Fin.ext hy.symm
    · rfl

/-- Part `p` of the own experts is the elements whose row is of part `p`. -/
theorem mem_ownSet (p : Fin 3) (i : S4x256x512.Idx) : i ∈ ownSet p ↔ partOf (i 1).val = p := by
  constructor
  · intro h
    obtain ⟨x, -, rfl⟩ := Finset.mem_map.mp h
    obtain ⟨x, y, z, rfl⟩ := rows_idx p x
    rw [own_emb]
    exact partOf_off p y.val y.isLt
  · rintro rfl
    obtain ⟨y', hy⟩ := partOf_split (i 1)
    refine Finset.mem_map.mpr ⟨ix3 (i 0) y' (i 2), Finset.mem_univ _, (own_emb _ (i 0) y' (i 2)).trans ?_⟩
    funext a
    fin_cases a
    · rfl
    · exact Fin.ext hy.symm
    · rfl

/-! ## Contents -/

/-- The buffer that holds, in slot `j`, the experts `w (c ⊕ j)`. -/
def gathered (w : Dev nD → S4x256x512.Idx → Elt F .bf16) (c : Dev nD) : (cc0_scratch0 : Ref sig .tc).ty.Contents (Elt F) :=
  fun i : S8x4x256x512.Idx => w (home c (i 0)) (ix3 (i 1) (i 2) (i 3))

/-- The elements of a part of a slot, read from what is gathered, are the part of the experts at home there. -/
theorem read_gathered (w : Dev nD → S4x256x512.Idx → Elt F .bf16) (c : Dev nD) (j : Fin 8) (p : Fin 3) :
    (slotM j p).view.read (Elt F) (gathered w c) = (ownPartM p).view.read (Elt F) (w (home c j) : (cc0_scratch1 : Ref sig .tc).ty.Contents (Elt F)) := by
  funext i
  obtain ⟨x, y, z, rfl⟩ := rows_idx p i
  rw [View.read_apply, View.read_apply, slot_emb, own_emb]
  rfl

/-- A part of the experts at home in a slot, written there, is what that slot gathers. -/
theorem write_gathered (w : Dev nD → S4x256x512.Idx → Elt F .bf16) (c : Dev nD) (j : Fin 8) (p : Fin 3)
    (f : (cc0_scratch0 : Ref sig .tc).ty.Contents (Elt F)) (i : S8x4x256x512.Idx) (hi : i ∈ slotSet j p) :
    (slotM j p).view.write (Elt F) f ((ownPartM p).view.read (Elt F) (w (home c j) : (cc0_scratch1 : Ref sig .tc).ty.Contents (Elt F))) Finset.univ i
      = gathered w c i := by
  obtain ⟨x, -, rfl⟩ := Finset.mem_map.mp hi
  rw [View.write_emb_of_mem _ _ (Finset.mem_univ _), ← read_gathered w c j p]
  rfl

end Cert.KernelIdeal.Exchange

end
-- ==== Proof.KernelIdeal.Schedule.lean ====
/-
Who signals whom, who waits for what, and what changes hands.

Each device has one barrier cell, which its three neighbours signal once each, and for every one of the 21 transfers a
send cell and a receive cell, credited once each with the bytes of a part. A neighbour's signal hands over those parts of
its gathering buffer that the transfers over that link will fill; a send credit gives the source part back; a receive
credit hands over the filled part. What a device still owes at each point are the receive credits of the transfers it has
yet to start, and a device waits only for cells of a level below everything it owes.
-/
module

public import proofs.«01_k».proof.Proof.KernelIdeal.Layout
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The exchange's rounds: a cell's duties are named by the three links. -/
abbrev UX : Type := URounds (GSem nD τ sig) (Fin 3)
abbrev UA : Type := UR sig nD τ × UX

local notation "𝕄" => MT nD τ sig Unit (Elt F) ℕ UA ℕ

abbrev EP : Emb (UR sig nD τ) (MT nD τ sig Unit (Elt F) ℕ UA ℕ) := embL
abbrev EX : Emb UX (MT nD τ sig Unit (Elt F) ℕ UA ℕ) := embR

/-! ## The cells -/

/-- The barrier semaphore, -/
abbrev barS : Sem sig := (SemArray.scalar (sig.barrier 0 rfl) : Sems sig S_).sem
theorem sem_inb (s : Fin 21) : ∀ a, (![s.val] : Fin 1 → ℕ) a + S1.size a ≤ S21.size a := by revert s; decide
/-- the semaphore that says transfer `s` has read its source, -/
abbrev sendS (s : Fin 21) : DmaSem sig :=
  (((cc0_scratch2 : DmaSems sig S21).slice (Rect.unit (s := S21) ![s.val] S1.size (sem_inb s))).squeeze S_ squeezes_S1_S_).sem
/-- and the one that says transfer `s` has landed here. -/
abbrev recvS (s : Fin 21) : DmaSem sig :=
  (((cc0_scratch3 : DmaSems sig S21).slice (Rect.unit (s := S21) ![s.val] S1.size (sem_inb s))).squeeze S_ squeezes_S1_S_).sem

theorem sendS_val (s : Fin 21) : (sendS s).val = 5 + s.val := by revert s; decide
theorem recvS_val (s : Fin 21) : (recvS s).val = 26 + s.val := by revert s; decide

abbrev barCell (c : Dev nD) : GSem nD τ sig := ((c : Thread nD τ), .reg barS)
abbrev sendCell (c : Dev nD) (s : Fin 21) : GSem nD τ sig := ((c : Thread nD τ), .dma (sendS s))
abbrev recvCell (c : Dev nD) (s : Fin 21) : GSem nD τ sig := ((c : Thread nD τ), .dma (recvS s))

/-- The bytes of transfer `s`. -/
def bytes (s : Fin 21) : ℕ := (slotM (dst s) (part s)).view.dmaCredit
theorem bytes_pos (s : Fin 21) : 0 < bytes s := View.dmaCredit_pos _ (by revert s; decide)
theorem slot_credit (j j' : Fin 8) (p : Fin 3) : (slotM j p).view.dmaCredit = (slotM j' p).view.dmaCredit := rfl
theorem own_credit (j : Fin 8) (p : Fin 3) : (ownPartM p).view.dmaCredit = (slotM j p).view.dmaCredit := rfl

/-! ## What changes hands -/

variable (w : Dev nD → S4x256x512.Idx → Elt F .bf16)

/-- A share of part `p` of slot `j` of `c`'s gathering buffer, at contents `f`; -/
def slotPts (c : Dev nD) (j : Fin 8) (p : Fin 3) (q : PosShare TreeShare) (f : (cc0_scratch0 : Ref sig .tc).ty.Contents (Elt F)) : sProp 𝕄 :=
  (slotM j p).view.loc (c : Thread nD τ) ↦[(slotM j p).view.set]{q} f
/-- of part `p` of its own experts. -/
def ownPts (c : Dev nD) (p : Fin 3) (q : PosShare TreeShare) (f : (cc0_scratch1 : Ref sig .tc).ty.Contents (Elt F)) : sProp 𝕄 :=
  (ownPartM p).view.loc (c : Thread nD τ) ↦[(ownPartM p).view.set]{q} f

instance slotPts_storable (c : Dev nD) (j p q f) : BI.Storable (upEmb : UEmb _ 𝕄) (slotPts (F := F) c j p q f) := by unfold slotPts; infer_instance
instance ownPts_storable (c : Dev nD) (p q f) : BI.Storable (upEmb : UEmb _ 𝕄) (ownPts (F := F) c p q f) := by unfold ownPts; infer_instance

/-- The left half of every share stays where it is, to be read; a transfer borrows this share of its source: -/
def lent (s : Fin 21) : PosShare TreeShare :=
  let R := fullShare.right
  ![R.left, R.right.left, R.left, R.right.right, R.right, R, R,
    R.left, R.right.left, R.left, R.right.right, R.right, R, R,
    R.left, R.right.left, R.left, R.right.right, R.right, R, R] s

/-- what transfer `s` reads, on device `c`; -/
def srcPts (c : Dev nD) (s : Fin 21) : sProp 𝕄 :=
  if src s = 0 then ownPts c (part s) (lent s) (w c) else slotPts c (src s) (part s) (lent s) (gathered w c)
/-- what it leaves behind, on the device it lands on; -/
def dstPts (c : Dev nD) (s : Fin 21) : sProp 𝕄 := slotPts c (dst s) (part s) fullShare (gathered w c)
/-- what must be free there before. -/
def freePts (c : Dev nD) (s : Fin 21) : sProp 𝕄 := iprop(∃ f, slotPts (F := F) c (dst s) (part s) fullShare f)
/-- A signal over link `k`, received by `c`: what the transfers over `k` will fill at its other end. -/
def barPts (c : Dev nD) (k : Fin 3) : sProp 𝕄 := bigSep (Finset.univ.filter fun s => link s = k) fun s => freePts (F := F) (across c k) s

instance srcPts_storable (c : Dev nD) (s) : BI.Storable (upEmb : UEmb _ 𝕄) (srcPts w c s) := by unfold srcPts; split <;> infer_instance
instance dstPts_storable (c : Dev nD) (s) : BI.Storable (upEmb : UEmb _ 𝕄) (dstPts w c s) := by unfold dstPts; infer_instance
instance freePts_storable (c : Dev nD) (s) : BI.Storable (upEmb : UEmb _ 𝕄) (freePts (F := F) c s) := by unfold freePts; infer_instance
instance barPts_storable (c : Dev nD) (k) : BI.Storable (upEmb : UEmb _ 𝕄) (barPts (F := F) c k) := by unfold barPts; infer_instance

/-! ## The schedule: one round -/

/-- Which transfer a semaphore is the send semaphore of, -/
def sendOf (q : DmaSem sig) : Option (Fin 21) := if h : 5 ≤ q.val ∧ q.val < 26 then some ⟨q.val - 5, by omega⟩ else none
/-- the receive semaphore of. -/
def recvOf (q : DmaSem sig) : Option (Fin 21) := if h : 26 ≤ q.val ∧ q.val < 47 then some ⟨q.val - 26, by omega⟩ else none

theorem sendOf_sendS (s : Fin 21) : sendOf (sendS s) = some s := by revert s; decide
theorem sendOf_recvS (s : Fin 21) : sendOf (recvS s) = none := by revert s; decide
theorem recvOf_recvS (s : Fin 21) : recvOf (recvS s) = some s := by revert s; decide
theorem recvOf_sendS (s : Fin 21) : recvOf (sendS s) = none := by revert s; decide

def dutiesAt : SemLoc sig → Finset (Fin 3)
  | .reg _ => Finset.univ
  | .dma q => if (sendOf q).isSome ∨ (recvOf q).isSome then {0} else ∅
def amountAt : SemLoc sig → ℕ
  | .reg _ => 1
  | .dma q => match sendOf q, recvOf q with
    | some s, _ => bytes s
    | none, some s => bytes s
    | none, none => 1
def payloadAt (c : Dev nD) (k : Fin 3) : SemLoc sig → sProp 𝕄
  | .reg _ => barPts (F := F) c k
  | .dma q => match sendOf q, recvOf q with
    | some s, _ => srcPts w c s
    | none, some s => dstPts w c s
    | none, none => iprop(emp)

theorem amountAt_pos (l : SemLoc sig) : 0 < amountAt l := by
  unfold amountAt
  split
  · exact Nat.one_pos
  · split
    · exact bytes_pos _
    · exact bytes_pos _
    · exact Nat.one_pos

/-- One round: a barrier cell's three units, a send or receive cell's credit. -/
def sched : Rounds.Schedule (GSem nD τ sig) (Fin 3) 𝕄 where
  duties g r := if r = 0 ∧ g.1.2 = .tc then dutiesAt g.2 else ∅
  unitless _ := False
  amount g _ _ := amountAt g.2
  payload g _ k := payloadAt w g.1.1 k g.2
  amount_pos g _ _ _ := amountAt_pos g.2

instance sched_storable (g : GSem nD τ sig) (r : ℕ) (k : Fin 3) : BI.Storable (upEmb : UEmb _ 𝕄) ((sched w).payload g r k) := by
  show BI.Storable upEmb (payloadAt w g.1.1 k g.2)
  unfold payloadAt
  repeat' split
  all_goals infer_instance

theorem duties_bar (c : Dev nD) : (sched w).duties (barCell c) 0 = Finset.univ := by
  dsimp only [sched]; rw [if_pos ⟨rfl, rfl⟩]; rfl
theorem duties_send (c : Dev nD) (s : Fin 21) : (sched w).duties (sendCell c s) 0 = {0} := by
  dsimp only [sched]; rw [if_pos ⟨rfl, rfl⟩]; dsimp only [dutiesAt]; rw [sendOf_sendS]; rfl
theorem duties_recv (c : Dev nD) (s : Fin 21) : (sched w).duties (recvCell c s) 0 = {0} := by
  dsimp only [sched]; rw [if_pos ⟨rfl, rfl⟩]; dsimp only [dutiesAt]; rw [recvOf_recvS]; exact if_pos (Or.inr rfl)
theorem duties_later (g : GSem nD τ sig) : ∀ r, 1 ≤ r → (sched w).duties g r = ∅ :=
  fun r hr => by dsimp only [sched]; rw [if_neg fun h => by omega]

theorem amount_bar (c : Dev nD) (k : Fin 3) : (sched w).amount (barCell c) 0 k = 1 := rfl
theorem amount_send (c : Dev nD) (s : Fin 21) (k : Fin 3) : (sched w).amount (sendCell c s) 0 k = bytes s := by
  dsimp only [sched, amountAt]; rw [sendOf_sendS]
theorem amount_recv (c : Dev nD) (s : Fin 21) (k : Fin 3) : (sched w).amount (recvCell c s) 0 k = bytes s := by
  dsimp only [sched, amountAt]; rw [sendOf_recvS, recvOf_recvS]

theorem expect_bar (c : Dev nD) : (sched w).expect (barCell c) 0 = 3 := by
  unfold Schedule.expect Schedule.amountOf
  rw [duties_bar, Finset.sum_congr rfl fun d _ => amount_bar w c d]; rfl
theorem expect_send (c : Dev nD) (s : Fin 21) : (sched w).expect (sendCell c s) 0 = bytes s := by
  unfold Schedule.expect Schedule.amountOf; rw [duties_send, Finset.sum_singleton, amount_send]
theorem expect_recv (c : Dev nD) (s : Fin 21) : (sched w).expect (recvCell c s) 0 = bytes s := by
  unfold Schedule.expect Schedule.amountOf; rw [duties_recv, Finset.sum_singleton, amount_recv]

theorem payload_bar (c : Dev nD) (k : Fin 3) : (sched w).payload (barCell c) 0 k = barPts c k := rfl
theorem payload_send (c : Dev nD) (s : Fin 21) (k : Fin 3) : (sched w).payload (sendCell c s) 0 k = srcPts w c s := by
  dsimp only [sched, payloadAt]; rw [sendOf_sendS]
theorem payload_recv (c : Dev nD) (s : Fin 21) (k : Fin 3) : (sched w).payload (recvCell c s) 0 k = dstPts w c s := by
  dsimp only [sched, payloadAt]; rw [sendOf_recvS, recvOf_recvS]

theorem rest_bar (c : Dev nD) : bigSep ((sched w).duties (barCell c) 0 \ ∅) (fun d => (sched w).payload (barCell c) 0 d) = bigSep Finset.univ fun k => barPts (F := F) c k := by
  rw [Finset.sdiff_empty, duties_bar]; rfl
theorem rest_send (c : Dev nD) (s : Fin 21) : bigSep ((sched w).duties (sendCell c s) 0 \ ∅) (fun d => (sched w).payload (sendCell c s) 0 d) = srcPts w c s := by
  rw [Finset.sdiff_empty, duties_send, bigSep_singleton, payload_send]
theorem rest_recv (c : Dev nD) (s : Fin 21) : bigSep ((sched w).duties (recvCell c s) 0 \ ∅) (fun d => (sched w).payload (recvCell c s) 0 d) = dstPts w c s := by
  rw [Finset.sdiff_empty, duties_recv, bigSep_singleton, payload_recv]

/-- A signal over a link pays its duty of the neighbour's barrier cell with the signaller's own free parts. -/
theorem barPts_across (c : Dev nD) (k : Fin 3) :
    (barPts (F := F) (across c k) k) = bigSep (Finset.univ.filter fun s => link s = k) fun s => freePts (F := F) c s := by
  unfold barPts; rw [across_across]

/-! ## What is owed; the levels -/

/-- The order in which a device starts its transfers. -/
def order : List (Fin 21) := [0, 7, 14, 1, 8, 15, 3, 10, 17, 2, 4, 9, 11, 16, 18, 5, 12, 19, 6, 13, 20]

/-- The receive credits that transfers `l` of device `c` will give. -/
def owed (c : Dev nD) : List (Fin 21) → CellTallies nD τ sig Unit
  | [] => 0
  | s :: l => owed c l + tallyAt (recvCell (across c (link s)) s) () (bytes s)

/-- At the start: all of them, and one unit for each neighbour's barrier cell. -/
def owed₂ (c : Dev nD) : CellTallies nD τ sig Unit := owed c order + tallyAt (barCell (across c 2)) () 1
def owed₁ (c : Dev nD) : CellTallies nD τ sig Unit := owed₂ c + tallyAt (barCell (across c 1)) () 1
def owed₀ (c : Dev nD) : CellTallies nD τ sig Unit := owed₁ c + tallyAt (barCell (across c 0)) () 1

/-- The level of a receive cell: a transfer out of a slot another filled is above that other. -/
def recvLev (s : Fin 21) : ℕ := ![2, 2, 3, 2, 3, 3, 4, 2, 2, 3, 2, 3, 3, 4, 2, 2, 3, 2, 3, 3, 4] s

def lvAt : SemLoc sig → ℕ
  | .reg _ => 1
  | .dma q => match recvOf q with
    | some s => recvLev s
    | none => 0

/-- Only a TensorCore's cells have a level; barrier cells are at 1, receive cells above, all others at 0. -/
def L (g : GSem nD τ sig) : Finset Unit := if g.1.2 = .tc then {()} else ∅
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (s : Fin 21) : lv (recvCell c s) () = recvLev s := by
  dsimp only [lv, lvAt]; rw [recvOf_recvS]
theorem lv_send (c : Dev nD) (s : Fin 21) : lv (sendCell c s) () = 0 := by
  dsimp only [lv, lvAt]; rw [recvOf_sendS]
theorem recvLev_pos (s : Fin 21) : 1 < recvLev s := by revert s; decide

theorem owed_pos {c : Dev nD} {l : List (Fin 21)} {g : GSem nD τ sig} {u : Unit} (h : 0 < owed c l g u) :
    ∃ s ∈ l, g = recvCell (across c (link s)) s := by
  induction l with
  | nil => exact absurd h (Nat.lt_irrefl 0)
  | cons s l ih =>
    dsimp only [owed] at h
    rw [Pi.add_apply, Finsupp.add_apply, tallyAt_apply] at h
    by_cases hg : g = recvCell (across c (link s)) s ∧ u = ()
    · exact ⟨s, List.mem_cons_self, hg.1⟩
    · rw [if_neg hg] at h
      obtain ⟨s', hs', e⟩ := ih h
      exact ⟨s', List.mem_cons_of_mem _ hs', e⟩

/-- A device may wait for a cell below every transfer it has yet to start. -/
theorem mayWait_owed (c : Dev nD) (sm : SemLoc sig) (l : List (Fin 21)) (h : ∀ s ∈ l, lvAt sm < recvLev s) :
    (levAts L lv : sProp 𝕄) ⊢ MayWait (c : Thread nD τ) sm () (owed c l) := by
  refine MayOwe.of_cut (L := L) (lev := lv) (lvAt sm) (fun p hp => by rw [Finset.mem_singleton.mp hp, L_tc]; exact Finset.mem_singleton_self _)
    (fun g u hg => ?_) (fun p hp => by rw [Finset.mem_singleton.mp hp]; exact le_refl _) (fun g u hg => ?_)
  · obtain ⟨s, -, rfl⟩ := owed_pos hg
    rw [L_tc]; exact Finset.mem_singleton_self _
  · obtain ⟨s, hs, rfl⟩ := owed_pos hg
    rw [lv_recv]; exact h s hs

theorem owed₀_pos {c : Dev nD} {g : GSem nD τ sig} {u : Unit} (h : 0 < owed₀ c g u) :
    (∃ s, g = recvCell (across c (link s)) s) ∨ ∃ k, g = barCell (across c k) := by
  unfold owed₀ owed₁ owed₂ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 _ h'.1), if_neg (fun h' => hn.2 _ h'.1), if_neg (fun h' => hn.2 _ h'.1)] at h
  simp only [Nat.add_zero] at h
  obtain ⟨s, -, e⟩ := owed_pos h
  exact hn.1 s e

/-- The staging cells lie below all of it. -/
theorem mayWait_stage (c : Dev nD) (q : DmaSem sig) (hq : recvOf q = none) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; dsimp only [lv, lvAt]; rw [hq]) (fun g u hg => ?_)
    · rcases owed₀_pos hg with ⟨s, rfl⟩ | ⟨k, rfl⟩ <;> (rw [L_tc]; exact Finset.mem_singleton_self _)
    · rcases owed₀_pos hg with ⟨s, rfl⟩ | ⟨k, rfl⟩
      · rw [lv_recv]; exact lt_trans Nat.one_pos (recvLev_pos s)
      · exact Nat.one_pos
  · rw [MayWait_zero]; iintro -; iempintro

end Cert.KernelIdeal.Exchange

end
-- ==== Proof.KernelIdeal.Steps.lean ====
/-
One transfer, step by step: started, its send wait, its receive wait; the entry handshake.

The states of transfer `s` as device `c` sees it (the transfer it starts, and the one it receives under the same number):
`idle` before the handshake, with `freePts` of the neighbour `c` may start it; `flying` once started; `sent` once its
source is back; `landed` once the part it receives is there too, both semaphores back at zero.
-/
module

public import proofs.«01_k».proof.Proof.KernelIdeal.Schedule

@[expose] public section

noncomputable section

namespace Cert.KernelIdeal.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

abbrev 𝒱₀ : Variants := Variants.none

/-! ## All cells, and what everyone knows of them -/

/-- Which of a device's cells: the barrier's, a send cell, a receive cell. -/
abbrev Which : Type := Unit ⊕ (Fin 21 ⊕ Fin 21)
abbrev bar : Which := .inl ()
abbrev snd (s : Fin 21) : Which := .inr (.inl s)
abbrev rcv (s : Fin 21) : Which := .inr (.inr s)
abbrev semOf : Which → SemLoc sig
  | .inl _ => .reg barS
  | .inr (.inl s) => .dma (sendS s)
  | .inr (.inr s) => .dma (recvS s)
abbrev cellAt (x : Dev nD × Which) : GSem nD τ sig := ((x.1 : Thread nD τ), semOf x.2)

variable (w : Dev nD → S4x256x512.Idx → Elt F .bf16) (K : Dev nD × Which → ℕ)

/-- Every cell's invariant, every cell in its first round, the levels. -/
def known : sProp 𝕄 :=
  iprop((bigSep Finset.univ fun x => cellInv EX (sched w) (K x) (cellAt x)) ∗ (bigSep Finset.univ fun x => reached EX (cellAt x) 0) ∗ levAts L lv)

instance known_persistent : BI.Persistent (known w K) := by unfold known; infer_instance

theorem known_inv (x : Dev nD × Which) : known w K ⊢ cellInv EX (sched w) (K x) (cellAt x) := by
  unfold known
  exact sep_elim_left.trans (bigSep_elim (Finset.mem_univ x))
theorem known_reached (x : Dev nD × Which) : known w K ⊢ (reached EX (cellAt x) 0 : sProp 𝕄) := by
  unfold known
  exact sep_elim_right.trans (sep_elim_left.trans (bigSep_elim (Finset.mem_univ x)))
theorem known_levels : known w K ⊢ (levAts L lv : sProp 𝕄) := by
  unfold known
  exact sep_elim_right.trans sep_elim_right

/-- What the device owes, whatever it has waited for. -/
def owing (c : Dev nD) (O : CellTallies nD τ sig Unit) : sProp 𝕄 := iprop(∃ W, owes (c : Thread nD τ) O W)

/-! ## The states of a transfer -/

def idle (c : Dev nD) (s : Fin 21) : sProp 𝕄 :=
  iprop(dutyTok EX (sendCell c s) 0 0 ∗ dutyTok EX (recvCell (across c (link s)) s) 0 0
    ∗ atPos EX (sendCell c s) 0 ∅ 0 ∗ atPos EX (recvCell c s) 0 ∅ 0 ∗ cred (tallyAt (recvCell c s) () (bytes s)))
def flying (c : Dev nD) (s : Fin 21) : sProp 𝕄 :=
  iprop(cred (tallyAt (sendCell c s) () (bytes s)) ∗ atPos EX (sendCell c s) 0 ∅ 0
    ∗ atPos EX (recvCell c s) 0 ∅ 0 ∗ cred (tallyAt (recvCell c s) () (bytes s)))
def sent (c : Dev nD) (s : Fin 21) : sProp 𝕄 :=
  iprop(semVal (sendCell c s) 0 ∗ atPos EX (recvCell c s) 0 ∅ 0 ∗ cred (tallyAt (recvCell c s) () (bytes s)))
def landed (c : Dev nD) (s : Fin 21) : sProp 𝕄 :=
  iprop(semVal (sendCell c s) 0 ∗ semVal (recvCell c s) 0)

/-! ## Starting it -/

/-- What a transfer writes on the neighbour is what the neighbour's slot gathers. -/
theorem dstPts_of_write (c : Dev nD) (s : Fin 21) (f : (cc0_scratch0 : Ref sig .tc).ty.Contents (Elt F)) :
    (slotPts (across c (link s)) (dst s) (part s) fullShare
        ((slotM (dst s) (part s)).view.write (Elt F) f ((ownPartM (part s)).view.read (Elt F) (w (home c (src s)) : (cc0_scratch1 : Ref sig .tc).ty.Contents (Elt F))) Finset.univ))
      ⊢ dstPts w (across c (link s)) s := by
  unfold dstPts slotPts
  refine Entails.of_eq (pointsTo_congr fun i hi => ?_)
  rw [← home_across c s]
  exact write_gathered w (across c (link s)) (dst s) (part s) f i hi

/-- Transfer `s` out of the device's own experts. -/
theorem start_own (c n : Dev nD) (s : Fin 21) (l : List (Fin 21)) (hn : n = across c (link s)) (h0 : src s = 0)
    {hsc : (slotM (dst s) (part s) : Memref sig (Dev.tc n : Thread nD τ).2.kind .vmem _ .bf16).view.ref.isScScratch = false}
    {hsrc : (ownPartM (part s)).view.WordExact} {hdst : (slotM (dst s) (part s)).view.WordExact}
    {hsem : DmaTarget.Typed .vmem (.dma (recvS s)) (.remote (Dev.tc n : Thread nD τ) (slotM (dst s) (part s)) (.dma (sendS s)) hsc)}
    {α : Type} {Q : α → sProp 𝕄} {k : PUnit → Prog (TpuEff nD τ sig (Elt F) Λ₀ .tc) α} :
    iprop(known w K ∗ idle (F := F) c s ∗ freePts (F := F) (across c (link s)) s ∗ srcPts w c s ∗ owing (F := F) c (owed c (s :: l)))
      ⊢ iprop(((flying (F := F) c s ∗ owing (F := F) c (owed c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownPartM (part s)) (.remote (Dev.tc n : Thread nD τ) (slotM (dst s) (part s)) (.dma (sendS s)) hsc) (.dma (recvS s)) hsrc hdst hsem) k) Q) := by
  subst hn
  have e : srcPts w c s = ownPts c (part s) (lent s) (w c) := if_pos h0
  rw [e]
  unfold idle flying freePts owing ownPts slotPts
  iintro ⟨#HK, ⟨HtS, HtR, HaS, HaR, HcR⟩, ⟨%f, Hd⟩, Hs, ⟨%W, HO⟩⟩ Hk
  iapply (Rounds.wp_send_pointsTo 𝒱₀ EX (sched w) (c : Thread nD τ) none (κ₁ := K (c, snd s)) (κ₂ := K (across c (link s), rcv s))
    (r₁ := 0) (r₂ := 0) (d₁ := 0) (d₂ := 0) (fd := f) (fs := (w c : (cc0_scratch1 : Ref sig .tc).ty.Contents (Elt F))) (q := lent s)
    (by rw [duties_send]; exact Finset.mem_singleton_self _) (by rw [duties_recv]; exact Finset.mem_singleton_self _)
    () () (bytes s) rfl (amount_send w c s 0) (amount_recv w (across c (link s)) s 0) (owed c l) rfl (W := W)
    (by rw [payload_send]; unfold srcPts ownPts; rw [if_pos h0])
    (by
      rw [payload_recv]
      have h := dstPts_of_write w c s f
      rw [h0, home_zero] at h
      exact h)) $$ [HtS HtR Hs Hd HO]
  · isplitr; · iapply (known_inv w K (c, snd s)); iexact HK
    isplitr; · iapply (known_inv w K (across c (link s), rcv s)); iexact HK
    isplitl [Hs]; · iexact Hs
    isplitl [Hd]; · iexact Hd
    isplitl [HO]; · iexact HO
    isplitl [HtS]; · iexact HtS
    isplitr; · iapply (known_reached w K (c, snd s)); iexact HK
    isplitl [HtR]; · iexact HtR
    iapply (known_reached w K (across c (link s), rcv s)); iexact HK
  iintro ⟨HcS, HO⟩
  iapply Hk
  isplitl [HcS HaS HaR HcR]
  · isplitl [HcS]; · iexact HcS
    isplitl [HaS]; · iexact HaS
    isplitl [HaR]; · iexact HaR
    iexact HcR
  · iexists W; iexact HO

/-- Transfer `s` out of a slot another transfer filled. -/
theorem start_slot (c n : Dev nD) (s : Fin 21) (l : List (Fin 21)) (hn : n = across c (link s)) (h0 : src s ≠ 0)
    {hsc : (slotM (dst s) (part s) : Memref sig (Dev.tc n : Thread nD τ).2.kind .vmem _ .bf16).view.ref.isScScratch = false}
    {hsrc : (slotM (src s) (part s)).view.WordExact} {hdst : (slotM (dst s) (part s)).view.WordExact}
    {hsem : DmaTarget.Typed .vmem (.dma (recvS s)) (.remote (Dev.tc n : Thread nD τ) (slotM (dst s) (part s)) (.dma (sendS s)) hsc)}
    {α : Type} {Q : α → sProp 𝕄} {k : PUnit → Prog (TpuEff nD τ sig (Elt F) Λ₀ .tc) α} :
    iprop(known w K ∗ idle (F := F) c s ∗ freePts (F := F) (across c (link s)) s ∗ srcPts w c s ∗ owing (F := F) c (owed c (s :: l)))
      ⊢ iprop(((flying (F := F) c s ∗ owing (F := F) c (owed c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM (src s) (part s)) (.remote (Dev.tc n : Thread nD τ) (slotM (dst s) (part s)) (.dma (sendS s)) hsc) (.dma (recvS s)) hsrc hdst hsem) k) Q) := by
  subst hn
  have e : srcPts w c s = slotPts c (src s) (part s) (lent s) (gathered w c) := if_neg h0
  rw [e]
  unfold idle flying freePts owing slotPts
  iintro ⟨#HK, ⟨HtS, HtR, HaS, HaR, HcR⟩, ⟨%f, Hd⟩, Hs, ⟨%W, HO⟩⟩ Hk
  iapply (Rounds.wp_send_pointsTo 𝒱₀ EX (sched w) (c : Thread nD τ) none (κ₁ := K (c, snd s)) (κ₂ := K (across c (link s), rcv s))
    (r₁ := 0) (r₂ := 0) (d₁ := 0) (d₂ := 0) (fd := f) (fs := gathered w c) (q := lent s)
    (by rw [duties_send]; exact Finset.mem_singleton_self _) (by rw [duties_recv]; exact Finset.mem_singleton_self _)
    () () (bytes s) rfl (amount_send w c s 0) (amount_recv w (across c (link s)) s 0) (owed c l) rfl (W := W)
    (by rw [payload_send]; unfold srcPts slotPts; rw [if_neg h0])
    (by
      rw [payload_recv, read_gathered]
      exact dstPts_of_write w c s f)) $$ [HtS HtR Hs Hd HO]
  · isplitr; · iapply (known_inv w K (c, snd s)); iexact HK
    isplitr; · iapply (known_inv w K (across c (link s), rcv s)); iexact HK
    isplitl [Hs]; · iexact Hs
    isplitl [Hd]; · iexact Hd
    isplitl [HO]; · iexact HO
    isplitl [HtS]; · iexact HtS
    isplitr; · iapply (known_reached w K (c, snd s)); iexact HK
    isplitl [HtR]; · iexact HtR
    iapply (known_reached w K (across c (link s), rcv s)); iexact HK
  iintro ⟨HcS, HO⟩
  iapply Hk
  isplitl [HcS HaS HaR HcR]
  · isplitl [HcS]; · iexact HcS
    isplitl [HaS]; · iexact HaS
    isplitl [HaR]; · iexact HaR
    iexact HcR
  · iexists W; iexact HO

/-! ## Waiting for it -/

/-- The send wait: the source part comes back. -/
theorem wait_send (c : Dev nD) (s : Fin 21) (l : List (Fin 21)) (hl : ∀ s' ∈ l, 0 < recvLev s')
    {sp sp' : Space} {sh sh' : Shape} {e e' : EltTy} {A : Memref sig (c : Thread nD τ).2.kind sp sh e} {B : Memref sig (c : Thread nD τ).2.kind sp' sh' e'}
    {hA : A.view.WordExact} {hB : B.view.WordExact} (hb : B.view.dmaCredit = bytes s)
    {α : Type} {Q : α → sProp 𝕄} {k : PUnit → Prog (TpuEff nD τ sig (Elt F) Λ₀ .tc) α} :
    iprop(known w K ∗ flying (F := F) c s ∗ owing (F := F) c (owed c l))
      ⊢ iprop(((sent (F := F) c s ∗ srcPts w c s ∗ owing (F := F) c (owed c l)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS s) A B hA hB) k) Q) := by
  unfold flying sent owing
  iintro ⟨#HK, ⟨HcS, HaS, HaR, HcR⟩, ⟨%W, HO⟩⟩ Hk
  rw [← hb]
  iapply (Rounds.wp_wait_rest_token 𝒱₀ EX (sched w) (c : Thread nD τ) none (κ := K (c, snd s))
      (wpE_waitDma2_eq 𝒱₀ (c : Thread nD τ) none Set.univ) (Set.mem_univ _) () (O := owed c l) (W := W) (R := 0) (m := 0) (T := ∅)
      (by rw [Nat.zero_add, expect_send]; exact hb)) $$ [HcS HO HaS]
  · isplitr; · iapply (known_inv w K (c, snd s)); iexact HK
    isplitl [HcS]; · iexact HcS
    isplitl [HO]; · iexact HO
    isplitr
    · iapply (mayWait_owed c (.dma (sendS s)) l (fun s' hs' => by dsimp only [lvAt]; rw [recvOf_sendS]; exact hl s' hs'))
      iapply (known_levels w K); iexact HK
    iexact HaS
  iintro ⟨HO, HaS, -, Hpay⟩
  ihave Hs := (Entails.of_eq (rest_send w c s)) $$ Hpay
  imod (Rounds.cell_close EX (sched w) (Set.mem_univ (K (c, snd s))) (fun h => h) (R := 0 + 1) (duties_later w (sendCell c s))) $$ [HaS] with Hz
  · isplitr; · iapply (known_inv w K (c, snd s)); iexact HK
    iexact HaS
  iapply Hk
  isplitl [Hz HaR HcR]
  · isplitl [Hz]; · iexact Hz
    isplitl [HaR]; · iexact HaR
    rw [hb]; iexact HcR
  isplitl [Hs]; · iexact Hs
  iexists _; iexact HO

/-- The receive wait: the part is here. -/
theorem wait_recv (c : Dev nD) (s : Fin 21) (l : List (Fin 21)) (hl : ∀ s' ∈ l, recvLev s < recvLev s')
    {sp sp' : Space} {sh sh' : Shape} {e e' : EltTy} {A : Memref sig (c : Thread nD τ).2.kind sp sh e} {B : Memref sig (c : Thread nD τ).2.kind sp' sh' e'}
    {hA : A.view.WordExact} {hB : B.view.WordExact} (hb : B.view.dmaCredit = bytes s)
    {α : Type} {Q : α → sProp 𝕄} {k : PUnit → Prog (TpuEff nD τ sig (Elt F) Λ₀ .tc) α} :
    iprop(known w K ∗ sent (F := F) c s ∗ owing (F := F) c (owed c l))
      ⊢ iprop(((landed (F := F) c s ∗ dstPts w c s ∗ owing (F := F) c (owed c l)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s) A B hA hB) k) Q) := by
  unfold sent landed owing
  iintro ⟨#HK, ⟨Hz, HaR, HcR⟩, ⟨%W, HO⟩⟩ Hk
  rw [← hb]
  iapply (Rounds.wp_wait_rest_token 𝒱₀ EX (sched w) (c : Thread nD τ) none (κ := K (c, rcv s))
      (wpE_waitDma2_eq 𝒱₀ (c : Thread nD τ) none Set.univ) (Set.mem_univ _) () (O := owed c l) (W := W) (R := 0) (m := 0) (T := ∅)
      (by rw [Nat.zero_add, expect_recv]; exact hb)) $$ [HcR HO HaR]
  · isplitr; · iapply (known_inv w K (c, rcv s)); iexact HK
    isplitl [HcR]; · iexact HcR
    isplitl [HO]; · iexact HO
    isplitr
    · iapply (mayWait_owed c (.dma (recvS s)) l (fun s' hs' => by dsimp only [lvAt]; rw [recvOf_recvS]; exact hl s' hs'))
      iapply (known_levels w K); iexact HK
    iexact HaR
  iintro ⟨HO, HaR, -, Hpay⟩
  ihave Hs := (Entails.of_eq (rest_recv w c s)) $$ Hpay
  imod (Rounds.cell_close EX (sched w) (Set.mem_univ (K (c, rcv s))) (fun h => h) (R := 0 + 1) (duties_later w (recvCell c s))) $$ [HaR] with Hz'
  · isplitr; · iapply (known_inv w K (c, rcv s)); iexact HK
    iexact HaR
  iapply Hk
  isplitl [Hz Hz']
  · isplitl [Hz]; · iexact Hz
    iexact Hz'
  isplitl [Hs]; · iexact Hs
  iexists _; iexact HO

/-! ## The entry handshake -/

/-- A signal over link `k`: the parts of its own buffer that the transfers over `k` will fill are lent to the neighbour. -/
theorem signal (c n : Dev nD) (k : Fin 3) (hn : n = across c k) (O : CellTallies nD τ sig Unit)
    {α : Type} {Q : α → sProp 𝕄} {kk : PUnit → Prog (TpuEff nD τ sig (Elt F) Λ₀ .tc) α} :
    iprop(known w K ∗ owing (F := F) c (O + tallyAt (barCell (across c k)) () 1) ∗ dutyTok EX (barCell (across c k)) 0 k
        ∗ bigSep (Finset.univ.filter fun s => link s = k) (fun s => freePts (F := F) c s))
      ⊢ iprop((owing (F := F) c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS (1#32).toInt) kk) Q) := by
  subst hn
  unfold owing
  iintro ⟨#HK, ⟨%W, HO⟩, Htok, Hf⟩ Hk
  iapply (Rounds.wp_signal 𝒱₀ EX (sched w) (c : Thread nD τ) none (dst := (across c k : Thread nD τ)) (κ := K (across c k, bar))
      (d := k) (by rw [duties_bar]; exact Finset.mem_univ _) ((amount_bar w (across c k) k).trans (by decide)) () O rfl)
    $$ [HO Htok Hf]
  · isplitr; · iapply (known_inv w K (across c k, bar)); iexact HK
    isplitl [HO]; · iexact HO
    isplitl [Htok]; · iexact Htok
    isplitl [Hf]; · rw [payload_bar, barPts_across]; iexact Hf
    iapply (known_reached w K (across c k, bar)); iexact HK
  iintro HO
  iapply Hk
  iexists W; iexact HO

/-- The wait for the three neighbours' signals: what the transfers this device starts will fill is lent to it. -/
theorem wait_bar (c : Dev nD) {α : Type} {Q : α → sProp 𝕄} {kk : PUnit → Prog (TpuEff nD τ sig (Elt F) Λ₀ .tc) α} :
    iprop(known w K ∗ owing (F := F) c (owed c order) ∗ atPos EX (barCell c) 0 ∅ 0 ∗ cred (tallyAt (barCell c) () 3))
      ⊢ iprop(((owing (F := F) c (owed c order) ∗ semVal (barCell c) 0 ∗ bigSep Finset.univ fun s => freePts (F := F) (across c (link s)) s)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (3#32).toInt) kk) Q) := by
  unfold owing
  iintro ⟨#HK, ⟨%W, HO⟩, Ha, Hc⟩ Hk
  iapply (Rounds.wp_wait_rest_token 𝒱₀ EX (sched w) (c : Thread nD τ) none (κ := K (c, bar))
      (wpE_semWait_eq 𝒱₀ (c : Thread nD τ) none Set.univ) (Set.mem_univ _) () (O := owed c order) (W := W) (R := 0) (m := 0) (T := ∅)
      (by rw [Nat.zero_add, expect_bar]; decide)) $$ [Hc HO Ha]
  · isplitr; · iapply (known_inv w K (c, bar)); iexact HK
    isplitl [Hc]; · iexact Hc
    isplitl [HO]; · iexact HO
    isplitr
    · iapply (mayWait_owed c (.reg barS) order (fun s _ => by dsimp only [lvAt]; exact recvLev_pos s))
      iapply (known_levels w K); iexact HK
    iexact Ha
  iintro ⟨HO, Ha, -, Hpay⟩
  ihave Hf := (Entails.of_eq (rest_bar w c)) $$ Hpay
  imod (Rounds.cell_close EX (sched w) (Set.mem_univ (K (c, bar))) (fun h => h) (R := 0 + 1) (duties_later w (barCell c))) $$ [Ha] with Hz
  · isplitr; · iapply (known_inv w K (c, bar)); iexact HK
    iexact Ha
  iapply Hk
  isplitl [HO]; · iexists _; iexact HO
  isplitl [Hz]; · iexact Hz
  have h : (bigSep Finset.univ fun k => barPts (F := F) c k) ⊢ bigSep Finset.univ fun s => freePts (F := F) (across c (link s)) s := by
    rw [bigSep_fiberwise (Finset.univ : Finset (Fin 21)) link, show (Finset.univ : Finset (Fin 21)).image link = Finset.univ from by decide]
    refine bigSep_mono fun k _ => ?_
    unfold barPts
    exact Entails.of_eq (bigSep_congr fun s hs => by rw [(Finset.mem_filter.mp hs).2])
  iapply h; iexact Hf

end Cert.KernelIdeal.Exchange

end
-- ==== Proof.KernelIdeal.Shares.lean ====
/-
How the two buffers are cut up and put together again.

The gathering buffer is eight slots of three parts; the transfers fill every part of slots 1 to 7, once each. A part that
has landed is held in two halves of its share: the left half stays, for the loads; the right half is lent, whole or in
two, to the transfers that send the part on.
-/
module

public import proofs.«01_k».proof.Proof.KernelIdeal.Steps

@[expose] public section

noncomputable section

namespace Cert.KernelIdeal.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (w : Dev nD → S4x256x512.Idx → Elt F .bf16)

/-! ## Halves -/

theorem slotPts_halve (c : Dev nD) (j : Fin 8) (p : Fin 3) (q : PosShare TreeShare) (f) :
    slotPts (F := F) c j p q f = iprop(slotPts c j p q.left f ∗ slotPts c j p q.right f) := by
  unfold slotPts
  exact Entails.antisymm (pointsTo_share (PosShare.mem_left_op_right q)).1 (pointsTo_share (PosShare.mem_left_op_right q)).2
theorem ownPts_halve (c : Dev nD) (p : Fin 3) (q : PosShare TreeShare) (f) :
    ownPts (F := F) c p q f = iprop(ownPts c p q.left f ∗ ownPts c p q.right f) := by
  unfold ownPts
  exact Entails.antisymm (pointsTo_share (PosShare.mem_left_op_right q)).1 (pointsTo_share (PosShare.mem_left_op_right q)).2

/-- What stays of the part transfer `t` left on `c`; -/
def kept (c : Dev nD) (t : Fin 21) : sProp 𝕄 := slotPts c (dst t) (part t) (fullShare : PosShare TreeShare).left (gathered w c)
/-- the other half. -/
def spare (c : Dev nD) (t : Fin 21) : sProp 𝕄 := slotPts c (dst t) (part t) (fullShare : PosShare TreeShare).right (gathered w c)
/-- What stays of a part of the device's own experts. -/
def ownKept (c : Dev nD) (p : Fin 3) : sProp 𝕄 := ownPts c p (fullShare : PosShare TreeShare).left (w c)

/-- A part that is sent on nowhere. -/
theorem dstPts_none (c : Dev nD) (t : Fin 21) : dstPts w c t = iprop(kept w c t ∗ spare w c t) := slotPts_halve c _ _ _ _
/-- A part that one transfer sends on. -/
theorem dstPts_one (c : Dev nD) (t s : Fin 21) (h0 : src s ≠ 0) (hs : src s = dst t) (hp : part s = part t)
    (hl : lent s = (fullShare : PosShare TreeShare).right) : dstPts w c t = iprop(kept w c t ∗ srcPts w c s) := by
  rw [dstPts_none]; unfold spare srcPts; rw [if_neg h0, hs, hp, hl]
/-- A part that two transfers send on. -/
theorem dstPts_two (c : Dev nD) (t s s' : Fin 21) (h0 : src s ≠ 0) (hs : src s = dst t) (hp : part s = part t)
    (h0' : src s' ≠ 0) (hs' : src s' = dst t) (hp' : part s' = part t)
    (hl : lent s = (fullShare : PosShare TreeShare).right.left) (hl' : lent s' = (fullShare : PosShare TreeShare).right.right) :
    dstPts w c t = iprop(kept w c t ∗ srcPts w c s ∗ srcPts w c s') := by
  rw [dstPts_none]; unfold spare srcPts; rw [if_neg h0, hs, hp, hl, if_neg h0', hs', hp', hl', slotPts_halve c _ _ (fullShare : PosShare TreeShare).right]
/-- A part of the device's own experts, which three transfers send. -/
theorem ownPts_three (c : Dev nD) (p : Fin 3) (s s' s'' : Fin 21) (h : src s = 0 ∧ src s' = 0 ∧ src s'' = 0)
    (hp : part s = p ∧ part s' = p ∧ part s'' = p)
    (hl : lent s = (fullShare : PosShare TreeShare).right.left) (hl' : lent s' = (fullShare : PosShare TreeShare).right.right.left)
    (hl'' : lent s'' = (fullShare : PosShare TreeShare).right.right.right) :
    ownPts c p fullShare (w c) = iprop(ownKept w c p ∗ srcPts w c s ∗ srcPts w c s' ∗ srcPts w c s'') := by
  unfold ownKept srcPts
  rw [if_pos h.1, if_pos h.2.1, if_pos h.2.2, hp.1, hp.2.1, hp.2.2, hl, hl', hl'', ownPts_halve c p fullShare,
    ownPts_halve c p (fullShare : PosShare TreeShare).right, ownPts_halve c p (fullShare : PosShare TreeShare).right.right]

/-! ## The own experts, whole -/

theorem ownSet_disjoint (p p' : Fin 3) (h : p ≠ p') : Disjoint (ownSet p) (ownSet p') :=
  Finset.disjoint_left.mpr fun i hi hi' => h (((mem_ownSet p i).mp hi).symm.trans ((mem_ownSet p' i).mp hi'))
theorem ownSet_cover : (Finset.univ : Finset (Fin 3)).biUnion ownSet = Finset.univ :=
  Finset.eq_univ_iff_forall.mpr fun i => Finset.mem_biUnion.mpr ⟨partOf (i 1).val, Finset.mem_univ _, (mem_ownSet _ i).mpr rfl⟩

theorem own_parts (c : Dev nD) (q : PosShare TreeShare) (f : (cc0_scratch1 : Ref sig .tc).ty.Contents (Elt F)) :
    ((ownM.view.loc (c : Thread nD τ) ↦{q} f : sProp 𝕄)) = iprop(ownPts c 0 q f ∗ ownPts c 1 q f ∗ ownPts c 2 q f) := by
  have h := pointsTo_biUnion (Ix := Unit) (Name := ℕ) (U := UA) (Lvl := ℕ) (nD := nD) (τ := τ) (sig := sig) (Val := Elt F) (ℓ := ownM.view.loc (c : Thread nD τ)) (q := q) (f := f)
    (Finset.univ : Finset (Fin 3)) ownSet (fun p _ p' _ hpp => ownSet_disjoint p p' hpp)
  rw [ownSet_cover] at h
  rw [h]
  exact bigSep_univ_eq_bigSepL [0, 1, 2] (by decide) (by decide) _

/-! ## A slot, whole -/

theorem slotSet_disjoint (a b : Fin 8 × Fin 3) (h : a ≠ b) : Disjoint (slotSet a.1 a.2) (slotSet b.1 b.2) :=
  Finset.disjoint_left.mpr fun i hi hi' => h (Prod.ext (((mem_slotSet _ _ i).mp hi).1.symm.trans ((mem_slotSet _ _ i).mp hi').1)
    (((mem_slotSet _ _ i).mp hi).2.symm.trans ((mem_slotSet _ _ i).mp hi').2))
theorem slotSet_cover : (Finset.univ : Finset (Fin 8 × Fin 3)).biUnion (fun a => slotSet a.1 a.2) = Finset.univ :=
  Finset.eq_univ_iff_forall.mpr fun i => Finset.mem_biUnion.mpr ⟨(i 0, partOf (i 2).val), Finset.mem_univ _, (mem_slotSet _ _ i).mpr ⟨rfl, rfl⟩⟩

/-- Slot `j`. -/
abbrev slotAll (j : Fin 8) : Finset S8x4x256x512.Idx := (Finset.univ : Finset (Fin 3)).biUnion (slotSet j)

theorem slot_parts (c : Dev nD) (j : Fin 8) (q : PosShare TreeShare) (f : (cc0_scratch0 : Ref sig .tc).ty.Contents (Elt F)) :
    ((commM.view.loc (c : Thread nD τ) ↦[slotAll j]{q} f : sProp 𝕄)) = iprop(slotPts c j 0 q f ∗ slotPts c j 1 q f ∗ slotPts c j 2 q f) := by
  have h := pointsTo_biUnion (Ix := Unit) (Name := ℕ) (U := UA) (Lvl := ℕ) (nD := nD) (τ := τ) (sig := sig) (Val := Elt F) (ℓ := commM.view.loc (c : Thread nD τ)) (q := q) (f := f)
    (Finset.univ : Finset (Fin 3)) (slotSet j) (fun p _ p' _ hpp => slotSet_disjoint (j, p) (j, p') (fun e => hpp (congrArg Prod.snd e)))
  rw [h]
  exact bigSep_univ_eq_bigSepL [0, 1, 2] (by decide) (by decide) _

theorem whole_slot_inb (j : Fin 8) : ∀ a, (![j.val, 0, 0, 0] : Fin 4 → ℕ) a + S1x4x256x512.size a ≤ S8x4x256x512.size a := by revert j; decide
/-- Slot `j` as one rectangle, -/
abbrev wholeSlot (j : Fin 8) : Rect S8x4x256x512 := Rect.unit (s := S8x4x256x512) ![j.val, 0, 0, 0] S1x4x256x512.size (whole_slot_inb j)
/-- and what is read there once it is filled. -/
def slotVal (c : Dev nD) (j : Fin 8) : Vec F S1x4x256x512 .bf16 := commM.view.readAt (Elt F) (wholeSlot j).toLoadRect (gathered w c)

theorem wholeSlot_sub (j : Fin 8) : commM.view.setOn (wholeSlot j).toLoadRect.set ⊆ slotAll j := by
  intro i hi
  obtain ⟨i', hi', rfl⟩ := Finset.mem_map.mp hi
  refine Finset.mem_biUnion.mpr ⟨partOf ((commM.view.emb i') 2).val, Finset.mem_univ _, (mem_slotSet _ _ _).mpr ⟨Fin.ext ?_, rfl⟩⟩
  have h := (Rect.mem_set_unit (inb := whole_slot_inb j)).mp hi' 0
  have h1 : j.val ≤ (i' 0).val := h.1
  have h2 : (i' 0).val < j.val + 1 := h.2
  show (i' 0).val = j.val
  omega

/-- The load of a filled slot. -/
theorem load_slot (c : Dev nD) (j : Fin 8) (t t' t'' : Fin 21) (hd : dst t = j ∧ dst t' = j ∧ dst t'' = j) (hp : part t = 0 ∧ part t' = 1 ∧ part t'' = 2)
    {hl : (commM : Memref sig (c : Thread nD τ).2.kind .vmem S8x4x256x512 .bf16).view.LoadsAt (wholeSlot j).toLoadRect}
    {α : Type} {Q : α → sProp 𝕄} {k : Vec F S1x4x256x512 .bf16 → Prog (TpuEff nD τ sig (Elt F) Λ₀ .tc) α} :
    iprop(kept w c t ∗ kept w c t' ∗ kept w c t'')
      ⊢ iprop(((kept w c t ∗ kept w c t' ∗ kept w c t'') -∗ wp frame (wpE (defs₀ (F := F)) 𝒱₀ (c : Thread nD τ) none) Set.univ (k (slotVal w c j)) Q)
          -∗ wp frame (wpE (defs₀ (F := F)) 𝒱₀ (c : Thread nD τ) none) Set.univ (.op (.load commM (wholeSlot j).toLoadRect hl) k) Q) := by
  obtain ⟨rfl, h1, h2⟩ := hd
  unfold kept
  rw [h1, h2, hp.1, hp.2.1, hp.2.2, ← slot_parts]
  exact wp_load 𝒱₀ (c : Thread nD τ) none Set.univ (m := commM) (wholeSlot_sub _)

/-! ## The gathering buffer, before and after -/

/-- Part `p` of slot `j`, at whatever contents. -/
def freeAt (c : Dev nD) (j : Fin 8) (p : Fin 3) : sProp 𝕄 := iprop(∃ f, slotPts (F := F) c j p fullShare f)

theorem free_of (c : Dev nD) (j : Fin 8) (p : Fin 3) (f) : (slotPts (F := F) c j p fullShare f) ⊢ freeAt (F := F) c j p := by
  unfold freeAt; iintro H; iexists f; iexact H

/-- The whole buffer, at whatever contents, is all its parts so: -/
theorem comm_parts (c : Dev nD) :
    (iprop(∃ f : (cc0_scratch0 : Ref sig .tc).ty.Contents (Elt F), commM.view.loc (c : Thread nD τ) ↦{fullShare} f) : sProp 𝕄)
      ⊣⊢ bigSep Finset.univ fun a : Fin 8 × Fin 3 => freeAt (F := F) c a.1 a.2 := by
  constructor
  · iintro ⟨%f, H⟩
    have h := pointsTo_biUnion (Ix := Unit) (Name := ℕ) (U := UA) (Lvl := ℕ) (nD := nD) (τ := τ) (sig := sig) (Val := Elt F) (ℓ := commM.view.loc (c : Thread nD τ)) (q := fullShare) (f := f)
      (Finset.univ : Finset (Fin 8 × Fin 3)) (fun a => slotSet a.1 a.2) (fun a _ b _ hab => slotSet_disjoint a b hab)
    rw [slotSet_cover] at h
    have h' : (commM.view.loc (c : Thread nD τ) ↦{fullShare} f : sProp 𝕄) ⊢ bigSep Finset.univ fun a : Fin 8 × Fin 3 => freeAt (F := F) c a.1 a.2 := by
      rw [h]
      exact bigSep_mono fun a _ => free_of c a.1 a.2 f
    iapply h'; iexact H
  · unfold freeAt slotPts
    refine (bigSep_exists_pi _ _).trans ?_
    iintro ⟨%f, H⟩
    have h := pointsTo_biUnion_join (Ix := Unit) (Name := ℕ) (U := UA) (Lvl := ℕ) (nD := nD) (τ := τ) (sig := sig) (Val := Elt F) (ℓ := commM.view.loc (c : Thread nD τ)) (q := fullShare)
      (Finset.univ : Finset (Fin 8 × Fin 3)) (fun a => slotSet a.1 a.2) f (f (0, 0)) (fun a _ b _ hab => slotSet_disjoint a b hab)
    rw [slotSet_cover] at h
    ihave H := h $$ H
    icases H with ⟨%g, -, H⟩
    iexists g; iexact H

/-- that is, every part a transfer fills, and the three of slot 0. -/
theorem parts_split (c : Dev nD) :
    (bigSep Finset.univ fun a : Fin 8 × Fin 3 => freeAt (F := F) c a.1 a.2)
      = iprop((bigSep Finset.univ fun s => freePts (F := F) c s) ∗ bigSep Finset.univ fun p => freeAt (F := F) c 0 p) := by
  rw [show (Finset.univ : Finset (Fin 8 × Fin 3)) = (Finset.univ : Finset (Fin 21)).image (fun s => (dst s, part s)) ∪ (Finset.univ : Finset (Fin 3)).image (fun p => ((0 : Fin 8), p)) from by decide,
    bigSep_union (by decide), bigSep_image_of_injOn (fun a _ b _ => by revert a b; decide), bigSep_image_of_injOn (fun a _ b _ => by revert a b; decide)]
  rfl

/-- The parts transfers fill, by link. -/
theorem free_by_link (c : Dev nD) :
    (bigSep Finset.univ fun s => freePts (F := F) c s)
      = iprop(bigSep (Finset.univ.filter fun s => link s = 0) (fun s => freePts (F := F) c s)
          ∗ bigSep (Finset.univ.filter fun s => link s = 1) (fun s => freePts (F := F) c s)
          ∗ bigSep (Finset.univ.filter fun s => link s = 2) (fun s => freePts (F := F) c s)) := by
  rw [bigSep_fiberwise (Finset.univ : Finset (Fin 21)) link, show (Finset.univ : Finset (Fin 21)).image link = Finset.univ from by decide]
  exact bigSep_univ_eq_bigSepL [0, 1, 2] (by decide) (by decide) _

theorem free_of_dst (c : Dev nD) (t : Fin 21) : dstPts w c t ⊢ freePts (F := F) c t := by
  unfold dstPts freePts; iintro H; iexists _; iexact H

/-- Once everything has landed the buffer is whole again. -/
theorem comm_whole (c : Dev nD) :
    iprop((bigSep Finset.univ fun t => dstPts w c t) ∗ bigSep Finset.univ fun p => freeAt (F := F) c 0 p)
      ⊢ (iprop(∃ f : (cc0_scratch0 : Ref sig .tc).ty.Contents (Elt F), commM.view.loc (c : Thread nD τ) ↦{fullShare} f) : sProp 𝕄) := by
  have h := (comm_parts (F := F) c).2
  rw [parts_split] at h
  exact (sep_mono_left (bigSep_mono fun t _ => free_of_dst w c t)).trans h

end Cert.KernelIdeal.Exchange

end
-- ==== Proof.KernelIdeal.Values.lean ====
/-
What the body computes, named: from the device, its three input blocks and everyone's rounded experts.

The eight slots are taken in the order 0, 1, 3, 4, 2, 5, 7, 6; slot `j` adds the four experts of device `c ⊕ j`. The names
follow the slots: `wJ` the experts read from slot `J`, `bJ` the device they come from, `accJ` the sum once they are added,
`accJa`, `accJb` the sum on the way there, and beside it what is prepared for the next expert.
-/
module

public import proofs.«01_k».proof.Proof.KernelIdeal.Shares
public import proofs.«01_k».proof.Proof.Gen.KernelIdeal.Skeleton

@[expose] public section

noncomputable section

namespace Cert.KernelIdeal.Exchange

open Cert.KernelIdeal Cert.KernelIdeal.Gen
open Idealize.ShloMosaic Idealize.ShloMosaic.TcCoe Idealize.ShloMosaic.ValueIdx

variable {F : FTy → Type} [FloatOps F]

/-- A body's staging buffers: the tokens, the router's weights, the two expert numbers of every token, the experts, the result. -/
abbrev xM : Memref sig .tc .vmem S1024x256 .f32 := Memref.whole cc0_stg0_0
abbrev rM : Memref sig .tc .vmem S256x32 .f32 := Memref.whole cc0_stg1_0
abbrev iM : Memref sig .tc .vmem S1024x2 .i32 := Memref.whole cc0_stg2_0
abbrev eM : Memref sig .tc .vmem S4x256x512 .f32 := Memref.whole cc0_stg3_0
abbrev oM : Memref sig .tc .vmem S1024x512 .f32 := Memref.whole cc0_stg4_0

/-- A stretch of the body, on the buffers the body is run on. -/
abbrev on {β : Type _}
    (p : (a0 : Memref sig .tc .vmem S1024x256 .f32) → a0.IsWhole → (a1 : Memref sig .tc .vmem S256x32 .f32) → a1.IsWhole → (a2 : Memref sig .tc .vmem S1024x2 .i32) → a2.IsWhole
      → (a3 : Memref sig .tc .vmem S4x256x512 .f32) → a3.IsWhole → (a4 : Memref sig .tc .vmem S1024x512 .f32) → a4.IsWhole
      → (a5 : Memref sig .tc .vmem S8x4x256x512 .bf16) → a5.IsWhole → (a6 : Memref sig .tc .vmem S4x256x512 .bf16) → a6.IsWhole → DmaSems sig S21 → DmaSems sig S21 → β) : β :=
  p xM (Memref.isWhole_whole _) rM (Memref.isWhole_whole _) iM (Memref.isWhole_whole _) eM (Memref.isWhole_whole _) oM (Memref.isWhole_whole _)
    commM (Memref.isWhole_whole _) ownM (Memref.isWhole_whole _) cc0_scratch2 cc0_scratch3

/-- What one body computes from. -/
structure Point (F : FTy → Type) where
  /-- the device, -/
  c : Dev nD
  /-- its tokens, -/
  x : Vec F S1024x256 .f32
  /-- the router's weights, -/
  r : Vec F S256x32 .f32
  /-- its tokens' expert numbers, -/
  i : Vec F S1024x2 .i32
  /-- everyone's rounded experts. -/
  w : Dev nD → S4x256x512.Idx → Elt F .bf16

namespace Point

variable (a : Point F)

/-! ## Before the slots -/

/-- The device's number. -/
def me : BitVec 32 := Scalar.remsi (Scalar.divsi (Dev.word a.c) 1#32) 8#32
/-- The two columns of expert numbers, as they are loaded. -/
def col0 : Vec F S1024x1 .i32 := iM.view.readAt (Elt F) (Rect.unit (s := S1024x2) ![0, 0] S1024x1.size inb_S1024x2_S1024x1_0_0).toLoadRect a.i
def col1 : Vec F S1024x1 .i32 := iM.view.readAt (Elt F) (Rect.unit (s := S1024x2) ![0, 1] S1024x1.size inb_S1024x2_S1024x1_0_1).toLoadRect a.i
def xs : FVec F S1024x256 .f32 := k0_pay3 a.x
def scores : FVec F S1024x32 .f32 := k0_pay4 a.x a.r
def e0 : IVec S1024x1 32 := k0_pay5 a.col0
def e1 : IVec S1024x1 32 := k0_pay6 a.col1
/-- The two normalised gates. -/
def g0 : FVec F S1024x1 .f32 := k0_pay10 a.scores a.col0 a.col1
def g1 : FVec F S1024x1 .f32 := k0_pay11 a.scores a.col0 a.col1

/-! ## Slot 0: the device's own experts -/

def w0 : Vec F S4x256x512 .bf16 := a.w a.c
def b0 : BitVec 32 := Scalar.xori a.me 0#32
def b0x4 : BitVec 32 := Scalar.muli a.b0 4#32
def acc0a : FVec F S1024x512 .f32 := k0_pay12 a.me a.xs a.scores a.col0 a.col1 a.w0
def acc0b : FVec F S1024x512 .f32 := k0_pay13 a.xs a.e0 a.e1 a.g0 a.g1 a.w0 a.b0 a.acc0a a.b0x4
def c0b : FVec F S1024x256 .f32 := k0_pay14 a.e0 a.e1 a.g0 a.g1 a.b0
def acc0 : FVec F S1024x512 .f32 := k0_pay15 a.xs a.w0 a.acc0b a.c0b

/-! ## The filled slots -/

/-- What slot `j` holds. -/
def slot (j : Fin 8) : Vec F S1x4x256x512 .bf16 := slotVal a.w a.c j

def w1 : FVec F S4x256x512 .bf16 := k0_pay16 (a.slot 1)
def b1 : BitVec 32 := Scalar.xori a.me 1#32
def acc1a : FVec F S1024x512 .f32 := k0_pay17 a.me a.xs a.e0 a.e1 a.g0 a.g1 a.acc0 (a.slot 1)
def c1a : FVec F S1024x1 .f32 := k0_pay18 a.me a.e0 a.g0
def m1a : IVec S1024x1 1 := k0_pay19 a.me a.e1
def acc1 : FVec F S1024x512 .f32 := k0_pay20 a.xs a.e0 a.e1 a.g0 a.g1 a.w1 a.b1 a.acc1a a.c1a a.m1a

def w3 : FVec F S4x256x512 .bf16 := k0_pay21 (a.slot 3)
def b3 : BitVec 32 := Scalar.xori a.me 3#32
def x3 : FVec F S1024x256 .f32 := k0_pay22 a.me a.xs a.e0 a.e1 a.g0 a.g1
def acc3a : FVec F S1024x512 .f32 := k0_pay23 a.xs a.e0 a.e1 a.g0 a.g1 a.acc1 a.w3 a.b3 a.x3
def n3a : BitVec 32 := Scalar.addi (Scalar.muli a.b3 4#32) 3#32
def m3a : IVec S1024x1 1 := k0_pay24 a.e0 a.b3

def w4 : FVec F S4x256x512 .bf16 := k0_pay26 (a.slot 4)
def b4 : BitVec 32 := Scalar.xori a.me 4#32
def acc4a : FVec F S1024x512 .f32 := k0_pay27 a.me a.xs a.e0 a.e1 a.g0 a.g1 a.w3 a.acc3a a.n3a a.m3a (k0_pay25 (F := F)) (a.slot 4)
def p4a : FVec F S1024x1 .f32 := k0_pay28 a.me a.e0 a.g0
def q4a : FVec F S1024x1 .f32 := k0_pay29 a.me a.e1 a.g1
def acc4 : FVec F S1024x512 .f32 := k0_pay30 a.xs a.e0 a.e1 a.g0 a.g1 a.w4 a.b4 a.acc4a a.p4a a.q4a

def w2 : FVec F S4x256x512 .bf16 := k0_pay31 (a.slot 2)
def b2 : BitVec 32 := Scalar.xori a.me 2#32
def b2x4 : BitVec 32 := Scalar.muli a.b2 4#32
def acc2a : FVec F S1024x512 .f32 := k0_pay32 a.xs a.e0 a.e1 a.g0 a.g1 a.acc4 a.w2 a.b2 a.b2x4 0#32
def x2a : FVec F S1024x256 .f32 := k0_pay33 a.xs a.e0 a.e1 a.g0 a.g1 a.b2

def w5 : FVec F S4x256x512 .bf16 := k0_pay34 (a.slot 5)
def b5 : BitVec 32 := Scalar.xori a.me 5#32
def acc5a : FVec F S1024x512 .f32 := k0_pay35 a.me a.xs a.e0 a.e1 a.g0 a.g1 a.w2 a.b2 a.acc2a a.x2a (a.slot 5)
def acc5b : FVec F S1024x512 .f32 := k0_pay36 a.xs a.e0 a.e1 a.g0 a.g1 a.w5 a.b5 a.acc5a
def p5b : FVec F S1024x1 .f32 := k0_pay37 a.e0 a.g0 a.b5
def q5b : FVec F S1024x1 .f32 := k0_pay38 a.e1 a.g1 a.b5

def w7 : FVec F S4x256x512 .bf16 := k0_pay39 (a.slot 7)
def b7 : BitVec 32 := Scalar.xori a.me 7#32
def acc7a : FVec F S1024x512 .f32 := k0_pay40 a.me a.xs a.e0 a.e1 a.g0 a.g1 a.w5 a.acc5b a.p5b a.q5b (a.slot 7)
def x7a : FVec F S1024x256 .bf16 := k0_pay41 a.me a.xs a.e0 a.e1 a.g0 a.g1
def y7a : FVec F S256x512 .bf16 := k0_pay42 (a.slot 7)
def acc7 : FVec F S1024x512 .f32 := k0_pay43 a.xs a.e0 a.e1 a.g0 a.g1 a.w7 a.b7 a.acc7a a.x7a a.y7a

def w6 : FVec F S4x256x512 .bf16 := k0_pay44 (a.slot 6)
def b6 : BitVec 32 := Scalar.xori a.me 6#32
def n6 : BitVec 32 := Scalar.addi (Scalar.muli a.b6 4#32) 0#32
def m6 : IVec S1024x1 1 := k0_pay45 a.me a.e0
def acc6a : FVec F S1024x512 .f32 := k0_pay46 a.xs a.e0 a.e1 a.g0 a.g1 a.acc7 a.w6 a.b6 a.n6 a.m6
def x6a : FVec F S1024x256 .bf16 := k0_pay47 a.xs a.e0 a.e1 a.g0 a.g1 a.b6
def y6a : FVec F S256x512 .bf16 := k0_pay48 a.w6
def acc6b : FVec F S1024x512 .f32 := k0_pay49 a.acc6a a.x6a a.y6a
def x6b : FVec F S1024x256 .bf16 := k0_pay50 a.xs a.e0 a.e1 a.g0 a.g1 a.b6
def y6b : FVec F S256x512 .bf16 := k0_pay51 a.w6

/-- The result block. -/
def out : FVec F S1024x512 .f32 := k0_pay1 a.acc6b a.x6b a.y6b (constant S1024x512 .f32 0x00000000#32)

end Point

end Cert.KernelIdeal.Exchange

end
-- ==== Proof.KernelIdeal.Access.lean ====
/-
The loads and stores of the body, and its first stretch: the handshake, and the device's own experts rounded.
-/
module

public import proofs.«01_k».proof.Proof.KernelIdeal.Values

@[expose] public section

noncomputable section

namespace Cert.KernelIdeal.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (a : Point F) (K : Dev nD × Which → ℕ)

/-! ## The input blocks -/

def xPts : sProp 𝕄 := xM.view.loc (a.c : Thread nD τ) ↦{fullShare} a.x
def rPts : sProp 𝕄 := rM.view.loc (a.c : Thread nD τ) ↦{fullShare} a.r
def iPts : sProp 𝕄 := iM.view.loc (a.c : Thread nD τ) ↦{fullShare} a.i
def ePts (c : Dev nD) (e : Vec F S4x256x512 .f32) : sProp 𝕄 := eM.view.loc (c : Thread nD τ) ↦{fullShare} e
def oPts (c : Dev nD) (o : Vec F S1024x512 .f32) : sProp 𝕄 := oM.view.loc (c : Thread nD τ) ↦{fullShare} o

theorem zero2 : (![0, 0] : Fin 2 → ℕ) = fun _ => 0 := funext fun a => by fin_cases a <;> rfl
theorem zero3 : (![0, 0, 0] : Fin 3 → ℕ) = fun _ => 0 := funext fun a => by fin_cases a <;> rfl

/-- The tokens' load, -/
theorem load_x {hl : (xM : Memref sig (a.c : Thread nD τ).2.kind .vmem S1024x256 .f32).view.LoadsAt (Rect.unit (s := S1024x256) ![0, 0] S1024x256.size inb_S1024x256_S1024x256_0_0).toLoadRect}
    {α : Type} {Q : α → sProp 𝕄} {k : Vec F S1024x256 .f32 → Prog (TpuEff nD τ sig (Elt F) Λ₀ .tc) α} :
    xPts a ⊢ iprop((xPts a -∗ wp frame (wpE (defs₀ (F := F)) 𝒱₀ (a.c : Thread nD τ) none) Set.univ (k a.x) Q)
        -∗ wp frame (wpE (defs₀ (F := F)) 𝒱₀ (a.c : Thread nD τ) none) Set.univ
            (.op (.load xM (Rect.unit (s := S1024x256) ![0, 0] S1024x256.size inb_S1024x256_S1024x256_0_0).toLoadRect hl) k) Q) := by
  have h := wp_load (defs := defs₀ (F := F)) 𝒱₀ (a.c : Thread nD τ) none Set.univ (m := xM) (hl := hl) (k := k) (Q := Q) (q := fullShare) (f := a.x) (Γ := .empty) (Finset.subset_univ _)
  rw [show (xM : Memref sig .tc .vmem S1024x256 .f32).view.readAt (Elt F) (Rect.unit (s := S1024x256) ![0, 0] S1024x256.size inb_S1024x256_S1024x256_0_0).toLoadRect a.x = a.x from
    Memref.readAt_unit_zero (Elt F) cc0_stg0_0 zero2 _ a.x] at h
  exact h
/-- the router's, -/
theorem load_r {hl : (rM : Memref sig (a.c : Thread nD τ).2.kind .vmem S256x32 .f32).view.LoadsAt (Rect.unit (s := S256x32) ![0, 0] S256x32.size inb_S256x32_S256x32_0_0).toLoadRect}
    {α : Type} {Q : α → sProp 𝕄} {k : Vec F S256x32 .f32 → Prog (TpuEff nD τ sig (Elt F) Λ₀ .tc) α} :
    rPts a ⊢ iprop((rPts a -∗ wp frame (wpE (defs₀ (F := F)) 𝒱₀ (a.c : Thread nD τ) none) Set.univ (k a.r) Q)
        -∗ wp frame (wpE (defs₀ (F := F)) 𝒱₀ (a.c : Thread nD τ) none) Set.univ
            (.op (.load rM (Rect.unit (s := S256x32) ![0, 0] S256x32.size inb_S256x32_S256x32_0_0).toLoadRect hl) k) Q) := by
  have h := wp_load (defs := defs₀ (F := F)) 𝒱₀ (a.c : Thread nD τ) none Set.univ (m := rM) (hl := hl) (k := k) (Q := Q) (q := fullShare) (f := a.r) (Γ := .empty) (Finset.subset_univ _)
  rw [show (rM : Memref sig .tc .vmem S256x32 .f32).view.readAt (Elt F) (Rect.unit (s := S256x32) ![0, 0] S256x32.size inb_S256x32_S256x32_0_0).toLoadRect a.r = a.r from
    Memref.readAt_unit_zero (Elt F) cc0_stg1_0 zero2 _ a.r] at h
  exact h
/-- the two columns of expert numbers, -/
theorem load_col0 {hl : (iM : Memref sig (a.c : Thread nD τ).2.kind .vmem S1024x2 .i32).view.LoadsAt (Rect.unit (s := S1024x2) ![0, 0] S1024x1.size inb_S1024x2_S1024x1_0_0).toLoadRect}
    {α : Type} {Q : α → sProp 𝕄} {k : Vec F S1024x1 .i32 → Prog (TpuEff nD τ sig (Elt F) Λ₀ .tc) α} :
    iPts a ⊢ iprop((iPts a -∗ wp frame (wpE (defs₀ (F := F)) 𝒱₀ (a.c : Thread nD τ) none) Set.univ (k a.col0) Q)
        -∗ wp frame (wpE (defs₀ (F := F)) 𝒱₀ (a.c : Thread nD τ) none) Set.univ
            (.op (.load iM (Rect.unit (s := S1024x2) ![0, 0] S1024x1.size inb_S1024x2_S1024x1_0_0).toLoadRect hl) k) Q) :=
  wp_load 𝒱₀ (a.c : Thread nD τ) none Set.univ (m := iM) (Γ := .empty) (Finset.subset_univ _)
theorem load_col1 {hl : (iM : Memref sig (a.c : Thread nD τ).2.kind .vmem S1024x2 .i32).view.LoadsAt (Rect.unit (s := S1024x2) ![0, 1] S1024x1.size inb_S1024x2_S1024x1_0_1).toLoadRect}
    {α : Type} {Q : α → sProp 𝕄} {k : Vec F S1024x1 .i32 → Prog (TpuEff nD τ sig (Elt F) Λ₀ .tc) α} :
    iPts a ⊢ iprop((iPts a -∗ wp frame (wpE (defs₀ (F := F)) 𝒱₀ (a.c : Thread nD τ) none) Set.univ (k a.col1) Q)
        -∗ wp frame (wpE (defs₀ (F := F)) 𝒱₀ (a.c : Thread nD τ) none) Set.univ
            (.op (.load iM (Rect.unit (s := S1024x2) ![0, 1] S1024x1.size inb_S1024x2_S1024x1_0_1).toLoadRect hl) k) Q) :=
  wp_load 𝒱₀ (a.c : Thread nD τ) none Set.univ (m := iM) (Γ := .empty) (Finset.subset_univ _)

/-- A read of all the own experts. -/
theorem read_own (f : Vec F S4x256x512 .bf16) :
    (ownM : Memref sig .tc .vmem S4x256x512 .bf16).view.readAt (Elt F) (Rect.unit (s := S4x256x512) ![0, 0, 0] S4x256x512.size inb_S4x256x512_S4x256x512_0_0_0).toLoadRect f = f :=
  Memref.readAt_unit_zero (Elt F) cc0_scratch1 zero3 _ f
theorem read_experts (f : Vec F S4x256x512 .f32) :
    (eM : Memref sig .tc .vmem S4x256x512 .f32).view.readAt (Elt F) (Rect.unit (s := S4x256x512) ![0, 0, 0] S4x256x512.size inb_S4x256x512_S4x256x512_0_0_0).toLoadRect f = f :=
  Memref.readAt_unit_zero (Elt F) cc0_stg3_0 zero3 _ f
theorem write_own (f v : Vec F S4x256x512 .bf16) :
    ((ownM : Memref sig .tc .vmem S4x256x512 .bf16).access (Rect.unit (s := S4x256x512) ![0, 0, 0] S4x256x512.size inb_S4x256x512_S4x256x512_0_0_0) : View sig .tc _ _ _).write (Elt F) f v Finset.univ = v :=
  Memref.write_access_unit_zero_univ (Elt F) cc0_scratch1 zero3 _ f v
theorem write_out (f v : Vec F S1024x512 .f32) :
    ((oM : Memref sig .tc .vmem S1024x512 .f32).access (Rect.unit (s := S1024x512) ![0, 0] S1024x512.size inb_S1024x512_S1024x512_0_0) : View sig .tc _ _ _).write (Elt F) f v Finset.univ = v :=
  Memref.write_access_unit_zero_univ (Elt F) cc0_stg4_0 zero2 _ f v

/-- The own experts' load, while their parts are being sent. -/
theorem load_own {hl : (ownM : Memref sig (a.c : Thread nD τ).2.kind .vmem S4x256x512 .bf16).view.LoadsAt (Rect.unit (s := S4x256x512) ![0, 0, 0] S4x256x512.size inb_S4x256x512_S4x256x512_0_0_0).toLoadRect}
    {α : Type} {Q : α → sProp 𝕄} {k : Vec F S4x256x512 .bf16 → Prog (TpuEff nD τ sig (Elt F) Λ₀ .tc) α} :
    iprop(ownKept a.w a.c 0 ∗ ownKept a.w a.c 1 ∗ ownKept a.w a.c 2)
      ⊢ iprop(((ownKept a.w a.c 0 ∗ ownKept a.w a.c 1 ∗ ownKept a.w a.c 2) -∗ wp frame (wpE (defs₀ (F := F)) 𝒱₀ (a.c : Thread nD τ) none) Set.univ (k a.w0) Q)
          -∗ wp frame (wpE (defs₀ (F := F)) 𝒱₀ (a.c : Thread nD τ) none) Set.univ
              (.op (.load ownM (Rect.unit (s := S4x256x512) ![0, 0, 0] S4x256x512.size inb_S4x256x512_S4x256x512_0_0_0).toLoadRect hl) k) Q) := by
  unfold ownKept
  rw [← own_parts]
  have h := wp_load (defs := defs₀ (F := F)) 𝒱₀ (a.c : Thread nD τ) none Set.univ (m := ownM) (hl := hl) (k := k) (Q := Q) (q := (fullShare : PosShare TreeShare).left)
    (f := (a.w a.c : (cc0_scratch1 : Ref sig .tc).ty.Contents (Elt F))) (Γ := .empty) (Finset.subset_univ _)
  rw [read_own] at h
  exact h

/-! ## The first stretch -/

theorem dev1_eq (c : Dev nD) : (⟨k0_dev1 c, k0_dev1_lt c⟩ : Dev nD) = across c 0 := by revert c; decide
theorem dev2_eq (c : Dev nD) : (⟨k0_dev2 c, k0_dev2_lt c⟩ : Dev nD) = across c 1 := by revert c; decide
theorem dev3_eq (c : Dev nD) : (⟨k0_dev3 c, k0_dev3_lt c⟩ : Dev nD) = across c 2 := by revert c; decide

/-- Stretch 1: the three signals and the wait; the own experts rounded. -/
theorem part1_spec (e : Vec F S4x256x512 .f32) (he : a.w a.c = k0_pay2 e)
    {Kt : (Σ' (d0 : Dev nD) (v2 : BitVec 32) (v19 : BitVec 32) (v20 : BitVec 32) (v21 : BitVec 32) (v22 : BitVec 32) (v23 : BitVec 32) (v24 : BitVec 32), BitVec 32) → sProp 𝕄} :
    iprop(known a.w K ∗ owing (F := F) a.c (owed₀ a.c)
        ∗ dutyTok EX (barCell (across a.c 0)) 0 0 ∗ dutyTok EX (barCell (across a.c 1)) 0 1 ∗ dutyTok EX (barCell (across a.c 2)) 0 2
        ∗ atPos EX (barCell a.c) 0 ∅ 0 ∗ cred (tallyAt (barCell a.c) () 3)
        ∗ (∃ f : (cc0_scratch0 : Ref sig .tc).ty.Contents (Elt F), commM.view.loc (a.c : Thread nD τ) ↦{fullShare} f)
        ∗ (∃ f : (cc0_scratch1 : Ref sig .tc).ty.Contents (Elt F), ownM.view.loc (a.c : Thread nD τ) ↦{fullShare} f)
        ∗ ePts a.c e)
      ⊢ iprop(((owing (F := F) a.c (owed a.c order) ∗ semVal (barCell a.c) 0 ∗ (bigSep Finset.univ fun s => freePts (F := F) (across a.c (link s)) s)
              ∗ (bigSep Finset.univ fun p => freeAt (F := F) a.c 0 p) ∗ ownPts a.c 0 fullShare (a.w a.c) ∗ ownPts a.c 1 fullShare (a.w a.c) ∗ ownPts a.c 2 fullShare (a.w a.c)
              ∗ ePts a.c e) -∗ Kt ⟨a.c, a.me, Scalar.xori a.me 1#32, Scalar.xori a.me 3#32, Scalar.xori a.me 4#32, Scalar.xori a.me 3#32, Scalar.xori a.me 4#32, Scalar.xori a.me 1#32, 3#32⟩)
          -∗ wp frame (wpE (defs₀ (F := F)) 𝒱₀ (a.c : Thread nD τ) none) Set.univ (on (k0_part1 (F := F))) Kt) := by
  rw [k0_part1_eq_skeleton]
  unfold k0_part1_skel Point.me
  simp only [semSignalWord, semWaitWord, Prog.lift, Prog.bind_op, Prog.bind_ret, Prog.pure_eq_ret, wp_deviceId]
  iintro ⟨#HK, HO, HtA, HtB, HtC, Ha, Hc, Hcomm, ⟨%f, Hown⟩, He⟩ Hk
  ihave Hcomm := (comm_parts (F := F) a.c).1 $$ Hcomm
  ihave Hcomm := (Entails.of_eq ((parts_split (F := F) a.c).trans (congrArg (fun P => iprop(P ∗ _)) (free_by_link (F := F) a.c)))) $$ Hcomm
  icases Hcomm with ⟨⟨HfA, HfB, HfC⟩, Hz⟩
  unfold owed₀
  iapply (signal a.w K a.c _ 0 (dev1_eq a.c) (owed₁ a.c)) $$ [HO HtA HfA]
  · isplitr; · iexact HK
    isplitl [HO]; · iexact HO
    isplitl [HtA]; · iexact HtA
    iexact HfA
  iintro HO
  unfold owed₁
  iapply (signal a.w K a.c _ 1 (dev2_eq a.c) (owed₂ a.c)) $$ [HO HtB HfB]
  · isplitr; · iexact HK
    isplitl [HO]; · iexact HO
    isplitl [HtB]; · iexact HtB
    iexact HfB
  iintro HO
  unfold owed₂
  iapply (signal a.w K a.c _ 2 (dev3_eq a.c) (owed a.c order)) $$ [HO HtC HfC]
  · isplitr; · iexact HK
    isplitl [HO]; · iexact HO
    isplitl [HtC]; · iexact HtC
    iexact HfC
  iintro HO
  iapply (wait_bar a.w K a.c) $$ [HO Ha Hc]
  · isplitr; · iexact HK
    isplitl [HO]; · iexact HO
    isplitl [Ha]; · iexact Ha
    iexact Hc
  iintro ⟨HO, Hs, Hf⟩
  unfold ePts
  iapply (wp_load 𝒱₀ (a.c : Thread nD τ) none Set.univ (m := eM) (Finset.subset_univ _)) $$ He; iintro He
  iapply (wp_load 𝒱₀ (a.c : Thread nD τ) none Set.univ (m := ownM) (Finset.subset_univ _)) $$ Hown; iintro Hown
  iapply (wp_store 𝒱₀ (a.c : Thread nD τ) none Set.univ (m := ownM) (r := Rect.unit (s := S4x256x512) ![0, 0, 0] S4x256x512.size inb_S4x256x512_S4x256x512_0_0_0) (Mk := Finset.univ) (Finset.subset_univ _)) $$ Hown; iintro Hown
  simp only [wp_ret]
  imodintro
  have e1 : (((ownM : Memref sig .tc .vmem S4x256x512 .bf16).access (Rect.unit (s := S4x256x512) ![0, 0, 0] S4x256x512.size inb_S4x256x512_S4x256x512_0_0_0) : View sig .tc _ _ _).loc (a.c : Thread nD τ)
        ↦{fullShare} ((ownM : Memref sig .tc .vmem S4x256x512 .bf16).access (Rect.unit (s := S4x256x512) ![0, 0, 0] S4x256x512.size inb_S4x256x512_S4x256x512_0_0_0) : View sig .tc _ _ _).write (Elt F) f
          (k0_pay2 ((eM : Memref sig .tc .vmem S4x256x512 .f32).view.readAt (Elt F) (Rect.unit (s := S4x256x512) ![0, 0, 0] S4x256x512.size inb_S4x256x512_S4x256x512_0_0_0).toLoadRect e)) Finset.univ : sProp 𝕄)
      ⊢ iprop(ownPts a.c 0 fullShare (a.w a.c) ∗ ownPts a.c 1 fullShare (a.w a.c) ∗ ownPts a.c 2 fullShare (a.w a.c)) := by
    rw [write_own, read_experts, ← he]
    exact Entails.of_eq (own_parts a.c fullShare (a.w a.c))
  ihave Hown := e1 $$ Hown
  icases Hown with ⟨O0, O1, O2⟩
  iapply Hk
  isplitl [HO]; · iexact HO
  isplitl [Hs]; · iexact Hs
  isplitl [Hf]; · iexact Hf
  isplitl [Hz]; · iexact Hz
  isplitl [O0]; · iexact O0
  isplitl [O1]; · iexact O1
  isplitl [O2]; · iexact O2
  iexact He

end Cert.KernelIdeal.Exchange

end
-- ==== Proof.KernelIdeal.Starts.lean ====
/-
Stretches 2 to 12 of the body: the device sends its own experts in all three directions, computes the router's scores, the chosen experts' gates and
its own experts' share of the result, and passes the first arrivals on.
-/
module

public import proofs.«01_k».proof.Proof.KernelIdeal.Access

@[expose] public section

noncomputable section

namespace Cert.KernelIdeal.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (a : Point F) (K : Dev nD × Which → ℕ)

/-! ## The peers, as the body names them -/

theorem dev4_eq (c : Dev nD) : (⟨k0_dev4 c, k0_dev4_lt c⟩ : Dev nD) = across c (link 0) := by revert c; decide
theorem dev5_eq (c : Dev nD) : (⟨k0_dev5 c, k0_dev5_lt c⟩ : Dev nD) = across c (link 7) := by revert c; decide
theorem dev6_eq (c : Dev nD) : (⟨k0_dev6 c, k0_dev6_lt c⟩ : Dev nD) = across c (link 14) := by revert c; decide
theorem dev7_eq (c : Dev nD) : (⟨k0_dev7 c, k0_dev7_lt c⟩ : Dev nD) = across c (link 1) := by revert c; decide
theorem dev8_eq (c : Dev nD) : (⟨k0_dev8 c, k0_dev8_lt c⟩ : Dev nD) = across c (link 8) := by revert c; decide
theorem dev9_eq (c : Dev nD) : (⟨k0_dev9 c, k0_dev9_lt c⟩ : Dev nD) = across c (link 15) := by revert c; decide
theorem dev10_eq (c : Dev nD) : (⟨k0_dev10 c, k0_dev10_lt c⟩ : Dev nD) = across c (link 3) := by revert c; decide
theorem dev11_eq (c : Dev nD) : (⟨k0_dev11 c, k0_dev11_lt c⟩ : Dev nD) = across c (link 10) := by revert c; decide
theorem dev12_eq (c : Dev nD) : (⟨k0_dev12 c, k0_dev12_lt c⟩ : Dev nD) = across c (link 17) := by revert c; decide
theorem dev13_eq (c : Dev nD) : (⟨k0_dev13 c, k0_dev13_lt c⟩ : Dev nD) = across c (link 2) := by revert c; decide
theorem dev14_eq (c : Dev nD) : (⟨k0_dev14 c, k0_dev14_lt c⟩ : Dev nD) = across c (link 4) := by revert c; decide
theorem dev15_eq (c : Dev nD) : (⟨k0_dev15 c, k0_dev15_lt c⟩ : Dev nD) = across c (link 9) := by revert c; decide
theorem dev16_eq (c : Dev nD) : (⟨k0_dev16 c, k0_dev16_lt c⟩ : Dev nD) = across c (link 11) := by revert c; decide
theorem dev17_eq (c : Dev nD) : (⟨k0_dev17 c, k0_dev17_lt c⟩ : Dev nD) = across c (link 16) := by revert c; decide
theorem dev18_eq (c : Dev nD) : (⟨k0_dev18 c, k0_dev18_lt c⟩ : Dev nD) = across c (link 18) := by revert c; decide
theorem dev19_eq (c : Dev nD) : (⟨k0_dev19 c, k0_dev19_lt c⟩ : Dev nD) = across c (link 5) := by revert c; decide
theorem dev20_eq (c : Dev nD) : (⟨k0_dev20 c, k0_dev20_lt c⟩ : Dev nD) = across c (link 12) := by revert c; decide
theorem dev21_eq (c : Dev nD) : (⟨k0_dev21 c, k0_dev21_lt c⟩ : Dev nD) = across c (link 19) := by revert c; decide
theorem dev22_eq (c : Dev nD) : (⟨k0_dev22 c, k0_dev22_lt c⟩ : Dev nD) = across c (link 6) := by revert c; decide
theorem dev23_eq (c : Dev nD) : (⟨k0_dev23 c, k0_dev23_lt c⟩ : Dev nD) = across c (link 13) := by revert c; decide
theorem dev24_eq (c : Dev nD) : (⟨k0_dev24 c, k0_dev24_lt c⟩ : Dev nD) = across c (link 20) := by revert c; decide

/-! ## The stretches -/

/-- Stretch 2: starts 0. -/
theorem part2_spec (v19 v20 c3_i32_21 : BitVec 32) {Kt : (Σ' (v25 : BitVec 32) (v26 : BitVec 32) (v27 : BitVec 32) (v28 : BitVec 32) (v29 : BitVec 32) (v30 : BitVec 32) (v31 : BitVec 32) (v32 : BitVec 32) (v33 : BitVec 32) (v34 : BitVec 32) (v35 : BitVec 32) (v36 : BitVec 32) (v37 : BitVec 32) (v38 : BitVec 32), BitVec 32) → sProp 𝕄} :
    iprop(known a.w K
        ∗ idle (F := F) a.c 0
        ∗ freePts (F := F) (across a.c (link 0)) 0
        ∗ srcPts a.w a.c 0
        ∗ owing (F := F) a.c (owed a.c (order.drop 0)))
      ⊢ iprop(((flying (F := F) a.c 0 ∗ owing (F := F) a.c (owed a.c (order.drop 1))) -∗ Kt ⟨Scalar.xori a.me c3_i32_21, Scalar.xori a.me 4#32, Scalar.xori a.me 1#32, Scalar.xori a.me 4#32, Scalar.xori a.me 1#32, Scalar.xori a.me 3#32, Scalar.xori a.me 4#32, Scalar.xori a.me 1#32, Scalar.xori a.me 3#32, Scalar.xori a.me 4#32, Scalar.xori a.me 1#32, Scalar.xori a.me 3#32, Scalar.xori a.me 4#32, Scalar.xori a.me 1#32, Scalar.xori a.me 3#32⟩)
          -∗ wp frame (wpE (defs₀ (F := F)) 𝒱₀ (a.c : Thread nD τ) none) Set.univ (on (k0_part2 (F := F)) a.c a.me v19 v20 c3_i32_21) Kt) := by
  rw [k0_part2_eq_skeleton]
  unfold k0_part2_skel
  simp only [Prog.lift, Prog.bind_op, Prog.bind_ret, Prog.pure_eq_ret]
  iintro ⟨#HK, T0, F0, S0, HO⟩ Hk
  iapply (start_own a.w K a.c _ 0 (order.drop 1) (dev4_eq a.c) rfl) $$ [T0 F0 S0 HO]
  · isplitr; · iexact HK
    isplitl [T0]; · iexact T0
    isplitl [F0]; · iexact F0
    isplitl [S0]; · iexact S0
    iexact HO
  iintro ⟨T0, HO⟩
  simp only [wp_ret]
  imodintro
  iapply Hk
  isplitl [T0]; · iexact T0
  iexact HO

/-- Stretch 3: starts 7, 14, 1. -/
theorem part3_spec (v21 v22 v23 : BitVec 32) {Kt : (PUnit) → sProp 𝕄} :
    iprop(known a.w K
        ∗ idle (F := F) a.c 7
        ∗ freePts (F := F) (across a.c (link 7)) 7
        ∗ srcPts a.w a.c 7
        ∗ idle (F := F) a.c 14
        ∗ freePts (F := F) (across a.c (link 14)) 14
        ∗ srcPts a.w a.c 14
        ∗ idle (F := F) a.c 1
        ∗ freePts (F := F) (across a.c (link 1)) 1
        ∗ srcPts a.w a.c 1
        ∗ owing (F := F) a.c (owed a.c (order.drop 1)))
      ⊢ iprop(((flying (F := F) a.c 7 ∗ flying (F := F) a.c 14 ∗ flying (F := F) a.c 1 ∗ owing (F := F) a.c (owed a.c (order.drop 4))) -∗ Kt ⟨⟩)
          -∗ wp frame (wpE (defs₀ (F := F)) 𝒱₀ (a.c : Thread nD τ) none) Set.univ (on (k0_part3 (F := F)) a.c v21 v22 v23) Kt) := by
  rw [k0_part3_eq_skeleton]
  unfold k0_part3_skel
  simp only [Prog.lift, Prog.bind_op, Prog.bind_ret, Prog.pure_eq_ret]
  iintro ⟨#HK, T7, F7, S7, T14, F14, S14, T1, F1, S1, HO⟩ Hk
  iapply (start_own a.w K a.c _ 7 (order.drop 2) (dev5_eq a.c) rfl) $$ [T7 F7 S7 HO]
  · isplitr; · iexact HK
    isplitl [T7]; · iexact T7
    isplitl [F7]; · iexact F7
    isplitl [S7]; · iexact S7
    iexact HO
  iintro ⟨T7, HO⟩
  iapply (start_own a.w K a.c _ 14 (order.drop 3) (dev6_eq a.c) rfl) $$ [T14 F14 S14 HO]
  · isplitr; · iexact HK
    isplitl [T14]; · iexact T14
    isplitl [F14]; · iexact F14
    isplitl [S14]; · iexact S14
    iexact HO
  iintro ⟨T14, HO⟩
  iapply (start_own a.w K a.c _ 1 (order.drop 4) (dev7_eq a.c) rfl) $$ [T1 F1 S1 HO]
  · isplitr; · iexact HK
    isplitl [T1]; · iexact T1
    isplitl [F1]; · iexact F1
    isplitl [S1]; · iexact S1
    iexact HO
  iintro ⟨T1, HO⟩
  simp only [wp_ret]
  imodintro
  iapply Hk
  isplitl [T7]; · iexact T7
  isplitl [T14]; · iexact T14
  isplitl [T1]; · iexact T1
  iexact HO

/-- Stretch 4: starts 8, 15, 3. -/
theorem part4_spec (v24 v28 : BitVec 32) {Kt : (BitVec 32) → sProp 𝕄} :
    iprop(known a.w K
        ∗ idle (F := F) a.c 8
        ∗ freePts (F := F) (across a.c (link 8)) 8
        ∗ srcPts a.w a.c 8
        ∗ idle (F := F) a.c 15
        ∗ freePts (F := F) (across a.c (link 15)) 15
        ∗ srcPts a.w a.c 15
        ∗ idle (F := F) a.c 3
        ∗ freePts (F := F) (across a.c (link 3)) 3
        ∗ srcPts a.w a.c 3
        ∗ owing (F := F) a.c (owed a.c (order.drop 4)))
      ⊢ iprop(((flying (F := F) a.c 8 ∗ flying (F := F) a.c 15 ∗ flying (F := F) a.c 3 ∗ owing (F := F) a.c (owed a.c (order.drop 7))) -∗ Kt 1#32)
          -∗ wp frame (wpE (defs₀ (F := F)) 𝒱₀ (a.c : Thread nD τ) none) Set.univ (on (k0_part4 (F := F)) a.c v24 v28) Kt) := by
  rw [k0_part4_eq_skeleton]
  unfold k0_part4_skel
  simp only [Prog.lift, Prog.bind_op, Prog.bind_ret, Prog.pure_eq_ret]
  iintro ⟨#HK, T8, F8, S8, T15, F15, S15, T3, F3, S3, HO⟩ Hk
  iapply (start_own a.w K a.c _ 8 (order.drop 5) (dev8_eq a.c) rfl) $$ [T8 F8 S8 HO]
  · isplitr; · iexact HK
    isplitl [T8]; · iexact T8
    isplitl [F8]; · iexact F8
    isplitl [S8]; · iexact S8
    iexact HO
  iintro ⟨T8, HO⟩
  iapply (start_own a.w K a.c _ 15 (order.drop 6) (dev9_eq a.c) rfl) $$ [T15 F15 S15 HO]
  · isplitr; · iexact HK
    isplitl [T15]; · iexact T15
    isplitl [F15]; · iexact F15
    isplitl [S15]; · iexact S15
    iexact HO
  iintro ⟨T15, HO⟩
  iapply (start_own a.w K a.c _ 3 (order.drop 7) (dev10_eq a.c) rfl) $$ [T3 F3 S3 HO]
  · isplitr; · iexact HK
    isplitl [T3]; · iexact T3
    isplitl [F3]; · iexact F3
    isplitl [S3]; · iexact S3
    iexact HO
  iintro ⟨T3, HO⟩
  simp only [wp_ret]
  imodintro
  iapply Hk
  isplitl [T8]; · iexact T8
  isplitl [T15]; · iexact T15
  isplitl [T3]; · iexact T3
  iexact HO

/-- Stretch 5: starts 10, 17; loads the tokens and the router. -/
theorem part5_spec (v29 v30 c1_i32_110 : BitVec 32) {Kt : (Σ' (v122 : FVec F S1024x256 .f32), FVec F S1024x32 .f32) → sProp 𝕄} :
    iprop(known a.w K
        ∗ idle (F := F) a.c 10
        ∗ freePts (F := F) (across a.c (link 10)) 10
        ∗ srcPts a.w a.c 10
        ∗ idle (F := F) a.c 17
        ∗ freePts (F := F) (across a.c (link 17)) 17
        ∗ srcPts a.w a.c 17
        ∗ xPts a
        ∗ rPts a
        ∗ owing (F := F) a.c (owed a.c (order.drop 7)))
      ⊢ iprop(((flying (F := F) a.c 10 ∗ flying (F := F) a.c 17 ∗ xPts a ∗ rPts a ∗ owing (F := F) a.c (owed a.c (order.drop 9))) -∗ Kt ⟨a.xs, a.scores⟩)
          -∗ wp frame (wpE (defs₀ (F := F)) 𝒱₀ (a.c : Thread nD τ) none) Set.univ (on (k0_part5 (F := F)) a.c v29 v30 c1_i32_110) Kt) := by
  rw [k0_part5_eq_skeleton]
  unfold k0_part5_skel Point.scores Point.xs
  simp only [Prog.lift, Prog.bind_op, Prog.bind_ret, Prog.pure_eq_ret]
  iintro ⟨#HK, T10, F10, S10, T17, F17, S17, HX, HR, HO⟩ Hk
  iapply (start_own a.w K a.c _ 10 (order.drop 8) (dev11_eq a.c) rfl) $$ [T10 F10 S10 HO]
  · isplitr; · iexact HK
    isplitl [T10]; · iexact T10
    isplitl [F10]; · iexact F10
    isplitl [S10]; · iexact S10
    iexact HO
  iintro ⟨T10, HO⟩
  iapply (start_own a.w K a.c _ 17 (order.drop 9) (dev12_eq a.c) rfl) $$ [T17 F17 S17 HO]
  · isplitr; · iexact HK
    isplitl [T17]; · iexact T17
    isplitl [F17]; · iexact F17
    isplitl [S17]; · iexact S17
    iexact HO
  iintro ⟨T17, HO⟩
  iapply (load_x a) $$ HX
  iintro HX
  iapply (load_r a) $$ HR
  iintro HR
  simp only [wp_ret]
  imodintro
  iapply Hk
  isplitl [T10]; · iexact T10
  isplitl [T17]; · iexact T17
  isplitl [HX]; · iexact HX
  isplitl [HR]; · iexact HR
  iexact HO

/-- Stretch 6: loads the expert numbers and the own experts. -/
theorem part6_spec {Kt : (Σ' (v136 : IVec S1024x1 32) (v138 : IVec S1024x1 32) (v153 : FVec F S1024x1 .f32) (v154 : FVec F S1024x1 .f32) (v156 : Vec F S4x256x512 .bf16) (v157 : BitVec 32) (v175 : FVec F S1024x512 .f32), BitVec 32) → sProp 𝕄} :
    iprop(iPts a
        ∗ ownKept a.w a.c 0
        ∗ ownKept a.w a.c 1
        ∗ ownKept a.w a.c 2)
      ⊢ iprop(((iPts a ∗ ownKept a.w a.c 0 ∗ ownKept a.w a.c 1 ∗ ownKept a.w a.c 2) -∗ Kt ⟨a.e0, a.e1, a.g0, a.g1, a.w0, a.b0, a.acc0a, a.b0x4⟩)
          -∗ wp frame (wpE (defs₀ (F := F)) 𝒱₀ (a.c : Thread nD τ) none) Set.univ (on (k0_part6 (F := F)) a.me a.xs a.scores) Kt) := by
  rw [k0_part6_eq_skeleton]
  unfold k0_part6_skel Point.b0x4 Point.acc0a Point.b0 Point.g1 Point.g0 Point.e1 Point.e0
  simp only [Prog.lift, Prog.bind_op, Prog.bind_ret, Prog.pure_eq_ret]
  iintro ⟨HI, O0, O1, O2⟩ Hk
  iapply (load_col0 a) $$ HI
  iintro HI
  iapply (load_col1 a) $$ HI
  iintro HI
  iapply (load_own a) $$ [O0 O1 O2]
  · isplitl [O0]; · iexact O0
    isplitl [O1]; · iexact O1
    iexact O2
  iintro ⟨O0, O1, O2⟩
  simp only [wp_ret]
  imodintro
  iapply Hk
  isplitl [HI]; · iexact HI
  isplitl [O0]; · iexact O0
  isplitl [O1]; · iexact O1
  iexact O2

/-- Stretch 7: computes. -/
theorem part7_spec {Kt : (Σ' (v211 : FVec F S1024x512 .f32), FVec F S1024x256 .f32) → sProp 𝕄} :
    (Kt ⟨a.acc0b, a.c0b⟩) ⊢ wp frame (wpE (defs₀ (F := F)) 𝒱₀ (a.c : Thread nD τ) none) Set.univ (on (k0_part7 (F := F)) a.xs a.e0 a.e1 a.g0 a.g1 a.w0 a.b0 a.acc0a a.b0x4) Kt := by
  rw [k0_part7_eq_skeleton]
  unfold k0_part7_skel Point.c0b Point.acc0b
  simp only [Prog.lift, Prog.bind_op, Prog.bind_ret, Prog.pure_eq_ret]
  simp only [wp_ret]
  iintro Hk
  imodintro
  iexact Hk

/-- Stretch 8: waits for the send of 0; waits for the arrival of 0. -/
theorem part8_spec (v19 v25 : BitVec 32) {Kt : (FVec F S1024x512 .f32) → sProp 𝕄} :
    iprop(known a.w K
        ∗ flying (F := F) a.c 0
        ∗ owing (F := F) a.c (owed a.c (order.drop 9)))
      ⊢ iprop(((landed (F := F) a.c 0 ∗ srcPts a.w a.c 0 ∗ kept a.w a.c 0 ∗ srcPts a.w a.c 2 ∗ srcPts a.w a.c 4 ∗ owing (F := F) a.c (owed a.c (order.drop 9))) -∗ Kt a.acc0)
          -∗ wp frame (wpE (defs₀ (F := F)) 𝒱₀ (a.c : Thread nD τ) none) Set.univ (on (k0_part8 (F := F)) v19 v25 a.xs a.w0 a.acc0b a.c0b) Kt) := by
  rw [k0_part8_eq_skeleton]
  unfold k0_part8_skel Point.acc0
  simp only [Prog.lift, Prog.bind_op, Prog.bind_ret, Prog.pure_eq_ret]
  iintro ⟨#HK, T0, HO⟩ Hk
  iapply (wait_send a.w K a.c 0 (order.drop 9) (by decide) (own_credit 1 0)) $$ [T0 HO]
  · isplitr; · iexact HK
    isplitl [T0]; · iexact T0
    iexact HO
  iintro ⟨T0, S0, HO⟩
  iapply (wait_recv a.w K a.c 0 (order.drop 9) (by decide) (slot_credit 1 1 0)) $$ [T0 HO]
  · isplitr; · iexact HK
    isplitl [T0]; · iexact T0
    iexact HO
  iintro ⟨T0, D, HO⟩
  ihave D := (Entails.of_eq (dstPts_two a.w a.c 0 2 4 (by decide) rfl rfl (by decide) rfl rfl rfl rfl)) $$ D
  icases D with ⟨L0, S2, S4⟩
  simp only [wp_ret]
  imodintro
  iapply Hk
  isplitl [T0]; · iexact T0
  isplitl [S0]; · iexact S0
  isplitl [L0]; · iexact L0
  isplitl [S2]; · iexact S2
  isplitl [S4]; · iexact S4
  iexact HO

/-- Stretch 9: starts 2, 4; waits for the send of 7. -/
theorem part9_spec (v20 v31 : BitVec 32) {Kt : (PUnit) → sProp 𝕄} :
    iprop(known a.w K
        ∗ idle (F := F) a.c 2
        ∗ freePts (F := F) (across a.c (link 2)) 2
        ∗ srcPts a.w a.c 2
        ∗ idle (F := F) a.c 4
        ∗ freePts (F := F) (across a.c (link 4)) 4
        ∗ srcPts a.w a.c 4
        ∗ flying (F := F) a.c 7
        ∗ owing (F := F) a.c (owed a.c (order.drop 9)))
      ⊢ iprop(((flying (F := F) a.c 2 ∗ flying (F := F) a.c 4 ∗ sent (F := F) a.c 7 ∗ srcPts a.w a.c 7 ∗ owing (F := F) a.c (owed a.c (order.drop 11))) -∗ Kt ⟨⟩)
          -∗ wp frame (wpE (defs₀ (F := F)) 𝒱₀ (a.c : Thread nD τ) none) Set.univ (on (k0_part9 (F := F)) a.c v20 v31) Kt) := by
  rw [k0_part9_eq_skeleton]
  unfold k0_part9_skel
  simp only [Prog.lift, Prog.bind_op, Prog.bind_ret, Prog.pure_eq_ret]
  iintro ⟨#HK, T2, F2, S2, T4, F4, S4, T7, HO⟩ Hk
  iapply (start_slot a.w K a.c _ 2 (order.drop 10) (dev13_eq a.c) (by decide)) $$ [T2 F2 S2 HO]
  · isplitr; · iexact HK
    isplitl [T2]; · iexact T2
    isplitl [F2]; · iexact F2
    isplitl [S2]; · iexact S2
    iexact HO
  iintro ⟨T2, HO⟩
  iapply (start_slot a.w K a.c _ 4 (order.drop 11) (dev14_eq a.c) (by decide)) $$ [T4 F4 S4 HO]
  · isplitr; · iexact HK
    isplitl [T4]; · iexact T4
    isplitl [F4]; · iexact F4
    isplitl [S4]; · iexact S4
    iexact HO
  iintro ⟨T4, HO⟩
  iapply (wait_send a.w K a.c 7 (order.drop 11) (by decide) (own_credit 3 1)) $$ [T7 HO]
  · isplitr; · iexact HK
    isplitl [T7]; · iexact T7
    iexact HO
  iintro ⟨T7, S7, HO⟩
  simp only [wp_ret]
  imodintro
  iapply Hk
  isplitl [T2]; · iexact T2
  isplitl [T4]; · iexact T4
  isplitl [T7]; · iexact T7
  isplitl [S7]; · iexact S7
  iexact HO

/-- Stretch 10: starts 9, 11; waits for the arrival of 7. -/
theorem part10_spec (v26 v32 : BitVec 32) {Kt : (PUnit) → sProp 𝕄} :
    iprop(known a.w K
        ∗ sent (F := F) a.c 7
        ∗ idle (F := F) a.c 9
        ∗ freePts (F := F) (across a.c (link 9)) 9
        ∗ idle (F := F) a.c 11
        ∗ freePts (F := F) (across a.c (link 11)) 11
        ∗ owing (F := F) a.c (owed a.c (order.drop 11)))
      ⊢ iprop(((landed (F := F) a.c 7 ∗ kept a.w a.c 7 ∗ flying (F := F) a.c 9 ∗ flying (F := F) a.c 11 ∗ owing (F := F) a.c (owed a.c (order.drop 13))) -∗ Kt ⟨⟩)
          -∗ wp frame (wpE (defs₀ (F := F)) 𝒱₀ (a.c : Thread nD τ) none) Set.univ (on (k0_part10 (F := F)) a.c v26 v32) Kt) := by
  rw [k0_part10_eq_skeleton]
  unfold k0_part10_skel
  simp only [Prog.lift, Prog.bind_op, Prog.bind_ret, Prog.pure_eq_ret]
  iintro ⟨#HK, T7, T9, F9, T11, F11, HO⟩ Hk
  iapply (wait_recv a.w K a.c 7 (order.drop 11) (by decide) (slot_credit 3 3 1)) $$ [T7 HO]
  · isplitr; · iexact HK
    isplitl [T7]; · iexact T7
    iexact HO
  iintro ⟨T7, D, HO⟩
  ihave D := (Entails.of_eq (dstPts_two a.w a.c 7 9 11 (by decide) rfl rfl (by decide) rfl rfl rfl rfl)) $$ D
  icases D with ⟨L7, S9, S11⟩
  iapply (start_slot a.w K a.c _ 9 (order.drop 12) (dev15_eq a.c) (by decide)) $$ [T9 F9 S9 HO]
  · isplitr; · iexact HK
    isplitl [T9]; · iexact T9
    isplitl [F9]; · iexact F9
    isplitl [S9]; · iexact S9
    iexact HO
  iintro ⟨T9, HO⟩
  iapply (start_slot a.w K a.c _ 11 (order.drop 13) (dev16_eq a.c) (by decide)) $$ [T11 F11 S11 HO]
  · isplitr; · iexact HK
    isplitl [T11]; · iexact T11
    isplitl [F11]; · iexact F11
    isplitl [S11]; · iexact S11
    iexact HO
  iintro ⟨T11, HO⟩
  simp only [wp_ret]
  imodintro
  iapply Hk
  isplitl [T7]; · iexact T7
  isplitl [L7]; · iexact L7
  isplitl [T9]; · iexact T9
  isplitl [T11]; · iexact T11
  iexact HO

/-- Stretch 11: starts 16; waits for the send of 14; waits for the arrival of 14. -/
theorem part11_spec (v21 v27 v33 : BitVec 32) {Kt : (PUnit) → sProp 𝕄} :
    iprop(known a.w K
        ∗ flying (F := F) a.c 14
        ∗ idle (F := F) a.c 16
        ∗ freePts (F := F) (across a.c (link 16)) 16
        ∗ owing (F := F) a.c (owed a.c (order.drop 13)))
      ⊢ iprop(((landed (F := F) a.c 14 ∗ srcPts a.w a.c 14 ∗ kept a.w a.c 14 ∗ srcPts a.w a.c 18 ∗ flying (F := F) a.c 16 ∗ owing (F := F) a.c (owed a.c (order.drop 14))) -∗ Kt ⟨⟩)
          -∗ wp frame (wpE (defs₀ (F := F)) 𝒱₀ (a.c : Thread nD τ) none) Set.univ (on (k0_part11 (F := F)) a.c v21 v27 v33) Kt) := by
  rw [k0_part11_eq_skeleton]
  unfold k0_part11_skel
  simp only [Prog.lift, Prog.bind_op, Prog.bind_ret, Prog.pure_eq_ret]
  iintro ⟨#HK, T14, T16, F16, HO⟩ Hk
  iapply (wait_send a.w K a.c 14 (order.drop 13) (by decide) (own_credit 4 2)) $$ [T14 HO]
  · isplitr; · iexact HK
    isplitl [T14]; · iexact T14
    iexact HO
  iintro ⟨T14, S14, HO⟩
  iapply (wait_recv a.w K a.c 14 (order.drop 13) (by decide) (slot_credit 4 4 2)) $$ [T14 HO]
  · isplitr; · iexact HK
    isplitl [T14]; · iexact T14
    iexact HO
  iintro ⟨T14, D, HO⟩
  ihave D := (Entails.of_eq (dstPts_two a.w a.c 14 16 18 (by decide) rfl rfl (by decide) rfl rfl rfl rfl)) $$ D
  icases D with ⟨L14, S16, S18⟩
  iapply (start_slot a.w K a.c _ 16 (order.drop 14) (dev17_eq a.c) (by decide)) $$ [T16 F16 S16 HO]
  · isplitr; · iexact HK
    isplitl [T16]; · iexact T16
    isplitl [F16]; · iexact F16
    isplitl [S16]; · iexact S16
    iexact HO
  iintro ⟨T16, HO⟩
  simp only [wp_ret]
  imodintro
  iapply Hk
  isplitl [T14]; · iexact T14
  isplitl [S14]; · iexact S14
  isplitl [L14]; · iexact L14
  isplitl [S18]; · iexact S18
  isplitl [T16]; · iexact T16
  iexact HO

/-- Stretch 12: starts 18; waits for the send of 1; waits for the arrival of 1. -/
theorem part12_spec (v22 v34 : BitVec 32) {Kt : (PUnit) → sProp 𝕄} :
    iprop(known a.w K
        ∗ idle (F := F) a.c 18
        ∗ freePts (F := F) (across a.c (link 18)) 18
        ∗ srcPts a.w a.c 18
        ∗ flying (F := F) a.c 1
        ∗ owing (F := F) a.c (owed a.c (order.drop 14)))
      ⊢ iprop(((flying (F := F) a.c 18 ∗ landed (F := F) a.c 1 ∗ srcPts a.w a.c 1 ∗ kept a.w a.c 1 ∗ srcPts a.w a.c 5 ∗ owing (F := F) a.c (owed a.c (order.drop 15))) -∗ Kt ⟨⟩)
          -∗ wp frame (wpE (defs₀ (F := F)) 𝒱₀ (a.c : Thread nD τ) none) Set.univ (on (k0_part12 (F := F)) a.c v22 v34) Kt) := by
  rw [k0_part12_eq_skeleton]
  unfold k0_part12_skel
  simp only [Prog.lift, Prog.bind_op, Prog.bind_ret, Prog.pure_eq_ret]
  iintro ⟨#HK, T18, F18, S18, T1, HO⟩ Hk
  iapply (start_slot a.w K a.c _ 18 (order.drop 15) (dev18_eq a.c) (by decide)) $$ [T18 F18 S18 HO]
  · isplitr; · iexact HK
    isplitl [T18]; · iexact T18
    isplitl [F18]; · iexact F18
    isplitl [S18]; · iexact S18
    iexact HO
  iintro ⟨T18, HO⟩
  iapply (wait_send a.w K a.c 1 (order.drop 15) (by decide) (own_credit 3 0)) $$ [T1 HO]
  · isplitr; · iexact HK
    isplitl [T1]; · iexact T1
    iexact HO
  iintro ⟨T1, S1, HO⟩
  iapply (wait_recv a.w K a.c 1 (order.drop 15) (by decide) (slot_credit 3 3 0)) $$ [T1 HO]
  · isplitr; · iexact HK
    isplitl [T1]; · iexact T1
    iexact HO
  iintro ⟨T1, D, HO⟩
  ihave D := (Entails.of_eq (dstPts_one a.w a.c 1 5 (by decide) rfl rfl rfl)) $$ D
  icases D with ⟨L1, S5⟩
  simp only [wp_ret]
  imodintro
  iapply Hk
  isplitl [T18]; · iexact T18
  isplitl [T1]; · iexact T1
  isplitl [S1]; · iexact S1
  isplitl [L1]; · iexact L1
  isplitl [S5]; · iexact S5
  iexact HO

end Cert.KernelIdeal.Exchange

end
-- ==== Proof.KernelIdeal.Middle.lean ====
/-
Stretches 13 to 24 of the body: the rest of the transfers is under way; the first, third and fourth arriving slots' shares are computed.
-/
module

public import proofs.«01_k».proof.Proof.KernelIdeal.Starts

@[expose] public section

noncomputable section

namespace Cert.KernelIdeal.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (a : Point F) (K : Dev nD × Which → ℕ)

/-- Stretch 13: starts 5; waits for the send of 8; waits for the arrival of 8. -/
theorem part13_spec (v23 v35 : BitVec 32) {Kt : (PUnit) → sProp 𝕄} :
    iprop(known a.w K
        ∗ idle (F := F) a.c 5
        ∗ freePts (F := F) (across a.c (link 5)) 5
        ∗ srcPts a.w a.c 5
        ∗ flying (F := F) a.c 8
        ∗ owing (F := F) a.c (owed a.c (order.drop 15)))
      ⊢ iprop(((flying (F := F) a.c 5 ∗ landed (F := F) a.c 8 ∗ srcPts a.w a.c 8 ∗ kept a.w a.c 8 ∗ srcPts a.w a.c 12 ∗ owing (F := F) a.c (owed a.c (order.drop 16))) -∗ Kt ⟨⟩)
          -∗ wp frame (wpE (defs₀ (F := F)) 𝒱₀ (a.c : Thread nD τ) none) Set.univ (on (k0_part13 (F := F)) a.c v23 v35) Kt) := by
  rw [k0_part13_eq_skeleton]
  unfold k0_part13_skel
  simp only [Prog.lift, Prog.bind_op, Prog.bind_ret, Prog.pure_eq_ret]
  iintro ⟨#HK, T5, F5, S5, T8, HO⟩ Hk
  iapply (start_slot a.w K a.c _ 5 (order.drop 16) (dev19_eq a.c) (by decide)) $$ [T5 F5 S5 HO]
  · isplitr; · iexact HK
    isplitl [T5]; · iexact T5
    isplitl [F5]; · iexact F5
    isplitl [S5]; · iexact S5
    iexact HO
  iintro ⟨T5, HO⟩
  iapply (wait_send a.w K a.c 8 (order.drop 16) (by decide) (own_credit 4 1)) $$ [T8 HO]
  · isplitr; · iexact HK
    isplitl [T8]; · iexact T8
    iexact HO
  iintro ⟨T8, S8, HO⟩
  iapply (wait_recv a.w K a.c 8 (order.drop 16) (by decide) (slot_credit 4 4 1)) $$ [T8 HO]
  · isplitr; · iexact HK
    isplitl [T8]; · iexact T8
    iexact HO
  iintro ⟨T8, D, HO⟩
  ihave D := (Entails.of_eq (dstPts_one a.w a.c 8 12 (by decide) rfl rfl rfl)) $$ D
  icases D with ⟨L8, S12⟩
  simp only [wp_ret]
  imodintro
  iapply Hk
  isplitl [T5]; · iexact T5
  isplitl [T8]; · iexact T8
  isplitl [S8]; · iexact S8
  isplitl [L8]; · iexact L8
  isplitl [S12]; · iexact S12
  iexact HO

/-- Stretch 14: starts 12; waits for the send of 15; waits for the arrival of 15. -/
theorem part14_spec (v24 v36 : BitVec 32) {Kt : (PUnit) → sProp 𝕄} :
    iprop(known a.w K
        ∗ idle (F := F) a.c 12
        ∗ freePts (F := F) (across a.c (link 12)) 12
        ∗ srcPts a.w a.c 12
        ∗ flying (F := F) a.c 15
        ∗ owing (F := F) a.c (owed a.c (order.drop 16)))
      ⊢ iprop(((flying (F := F) a.c 12 ∗ landed (F := F) a.c 15 ∗ srcPts a.w a.c 15 ∗ kept a.w a.c 15 ∗ srcPts a.w a.c 19 ∗ owing (F := F) a.c (owed a.c (order.drop 17))) -∗ Kt ⟨⟩)
          -∗ wp frame (wpE (defs₀ (F := F)) 𝒱₀ (a.c : Thread nD τ) none) Set.univ (on (k0_part14 (F := F)) a.c v24 v36) Kt) := by
  rw [k0_part14_eq_skeleton]
  unfold k0_part14_skel
  simp only [Prog.lift, Prog.bind_op, Prog.bind_ret, Prog.pure_eq_ret]
  iintro ⟨#HK, T12, F12, S12, T15, HO⟩ Hk
  iapply (start_slot a.w K a.c _ 12 (order.drop 17) (dev20_eq a.c) (by decide)) $$ [T12 F12 S12 HO]
  · isplitr; · iexact HK
    isplitl [T12]; · iexact T12
    isplitl [F12]; · iexact F12
    isplitl [S12]; · iexact S12
    iexact HO
  iintro ⟨T12, HO⟩
  iapply (wait_send a.w K a.c 15 (order.drop 17) (by decide) (own_credit 1 2)) $$ [T15 HO]
  · isplitr; · iexact HK
    isplitl [T15]; · iexact T15
    iexact HO
  iintro ⟨T15, S15, HO⟩
  iapply (wait_recv a.w K a.c 15 (order.drop 17) (by decide) (slot_credit 1 1 2)) $$ [T15 HO]
  · isplitr; · iexact HK
    isplitl [T15]; · iexact T15
    iexact HO
  iintro ⟨T15, D, HO⟩
  ihave D := (Entails.of_eq (dstPts_one a.w a.c 15 19 (by decide) rfl rfl rfl)) $$ D
  icases D with ⟨L15, S19⟩
  simp only [wp_ret]
  imodintro
  iapply Hk
  isplitl [T12]; · iexact T12
  isplitl [T15]; · iexact T15
  isplitl [S15]; · iexact S15
  isplitl [L15]; · iexact L15
  isplitl [S19]; · iexact S19
  iexact HO

/-- Stretch 15: starts 19; waits for the send of 2; waits for the arrival of 2. -/
theorem part15_spec (v25 v37 : BitVec 32) {Kt : (PUnit) → sProp 𝕄} :
    iprop(known a.w K
        ∗ idle (F := F) a.c 19
        ∗ freePts (F := F) (across a.c (link 19)) 19
        ∗ srcPts a.w a.c 19
        ∗ flying (F := F) a.c 2
        ∗ owing (F := F) a.c (owed a.c (order.drop 17)))
      ⊢ iprop(((flying (F := F) a.c 19 ∗ landed (F := F) a.c 2 ∗ srcPts a.w a.c 2 ∗ kept a.w a.c 2 ∗ srcPts a.w a.c 6 ∗ owing (F := F) a.c (owed a.c (order.drop 18))) -∗ Kt ⟨⟩)
          -∗ wp frame (wpE (defs₀ (F := F)) 𝒱₀ (a.c : Thread nD τ) none) Set.univ (on (k0_part15 (F := F)) a.c v25 v37) Kt) := by
  rw [k0_part15_eq_skeleton]
  unfold k0_part15_skel
  simp only [Prog.lift, Prog.bind_op, Prog.bind_ret, Prog.pure_eq_ret]
  iintro ⟨#HK, T19, F19, S19, T2, HO⟩ Hk
  iapply (start_slot a.w K a.c _ 19 (order.drop 18) (dev21_eq a.c) (by decide)) $$ [T19 F19 S19 HO]
  · isplitr; · iexact HK
    isplitl [T19]; · iexact T19
    isplitl [F19]; · iexact F19
    isplitl [S19]; · iexact S19
    iexact HO
  iintro ⟨T19, HO⟩
  iapply (wait_send a.w K a.c 2 (order.drop 18) (by decide) (slot_credit 1 2 0)) $$ [T2 HO]
  · isplitr; · iexact HK
    isplitl [T2]; · iexact T2
    iexact HO
  iintro ⟨T2, S2, HO⟩
  iapply (wait_recv a.w K a.c 2 (order.drop 18) (by decide) (slot_credit 2 2 0)) $$ [T2 HO]
  · isplitr; · iexact HK
    isplitl [T2]; · iexact T2
    iexact HO
  iintro ⟨T2, D, HO⟩
  ihave D := (Entails.of_eq (dstPts_one a.w a.c 2 6 (by decide) rfl rfl rfl)) $$ D
  icases D with ⟨L2, S6⟩
  simp only [wp_ret]
  imodintro
  iapply Hk
  isplitl [T19]; · iexact T19
  isplitl [T2]; · iexact T2
  isplitl [S2]; · iexact S2
  isplitl [L2]; · iexact L2
  isplitl [S6]; · iexact S6
  iexact HO

/-- Stretch 16: starts 6; waits for the send of 9; waits for the arrival of 9. -/
theorem part16_spec (v26 v38 : BitVec 32) {Kt : (PUnit) → sProp 𝕄} :
    iprop(known a.w K
        ∗ idle (F := F) a.c 6
        ∗ freePts (F := F) (across a.c (link 6)) 6
        ∗ srcPts a.w a.c 6
        ∗ flying (F := F) a.c 9
        ∗ owing (F := F) a.c (owed a.c (order.drop 18)))
      ⊢ iprop(((flying (F := F) a.c 6 ∗ landed (F := F) a.c 9 ∗ srcPts a.w a.c 9 ∗ kept a.w a.c 9 ∗ srcPts a.w a.c 13 ∗ owing (F := F) a.c (owed a.c (order.drop 19))) -∗ Kt ⟨⟩)
          -∗ wp frame (wpE (defs₀ (F := F)) 𝒱₀ (a.c : Thread nD τ) none) Set.univ (on (k0_part16 (F := F)) a.c v26 v38) Kt) := by
  rw [k0_part16_eq_skeleton]
  unfold k0_part16_skel
  simp only [Prog.lift, Prog.bind_op, Prog.bind_ret, Prog.pure_eq_ret]
  iintro ⟨#HK, T6, F6, S6, T9, HO⟩ Hk
  iapply (start_slot a.w K a.c _ 6 (order.drop 19) (dev22_eq a.c) (by decide)) $$ [T6 F6 S6 HO]
  · isplitr; · iexact HK
    isplitl [T6]; · iexact T6
    isplitl [F6]; · iexact F6
    isplitl [S6]; · iexact S6
    iexact HO
  iintro ⟨T6, HO⟩
  iapply (wait_send a.w K a.c 9 (order.drop 19) (by decide) (slot_credit 3 7 1)) $$ [T9 HO]
  · isplitr; · iexact HK
    isplitl [T9]; · iexact T9
    iexact HO
  iintro ⟨T9, S9, HO⟩
  iapply (wait_recv a.w K a.c 9 (order.drop 19) (by decide) (slot_credit 7 7 1)) $$ [T9 HO]
  · isplitr; · iexact HK
    isplitl [T9]; · iexact T9
    iexact HO
  iintro ⟨T9, D, HO⟩
  ihave D := (Entails.of_eq (dstPts_one a.w a.c 9 13 (by decide) rfl rfl rfl)) $$ D
  icases D with ⟨L9, S13⟩
  simp only [wp_ret]
  imodintro
  iapply Hk
  isplitl [T6]; · iexact T6
  isplitl [T9]; · iexact T9
  isplitl [S9]; · iexact S9
  isplitl [L9]; · iexact L9
  isplitl [S13]; · iexact S13
  iexact HO

/-- Stretch 17: starts 13; waits for the send of 16; waits for the arrival of 16. -/
theorem part17_spec (v27 v39 : BitVec 32) {Kt : (PUnit) → sProp 𝕄} :
    iprop(known a.w K
        ∗ idle (F := F) a.c 13
        ∗ freePts (F := F) (across a.c (link 13)) 13
        ∗ srcPts a.w a.c 13
        ∗ flying (F := F) a.c 16
        ∗ owing (F := F) a.c (owed a.c (order.drop 19)))
      ⊢ iprop(((flying (F := F) a.c 13 ∗ landed (F := F) a.c 16 ∗ srcPts a.w a.c 16 ∗ kept a.w a.c 16 ∗ srcPts a.w a.c 20 ∗ owing (F := F) a.c (owed a.c (order.drop 20))) -∗ Kt ⟨⟩)
          -∗ wp frame (wpE (defs₀ (F := F)) 𝒱₀ (a.c : Thread nD τ) none) Set.univ (on (k0_part17 (F := F)) a.c v27 v39) Kt) := by
  rw [k0_part17_eq_skeleton]
  unfold k0_part17_skel
  simp only [Prog.lift, Prog.bind_op, Prog.bind_ret, Prog.pure_eq_ret]
  iintro ⟨#HK, T13, F13, S13, T16, HO⟩ Hk
  iapply (start_slot a.w K a.c _ 13 (order.drop 20) (dev23_eq a.c) (by decide)) $$ [T13 F13 S13 HO]
  · isplitr; · iexact HK
    isplitl [T13]; · iexact T13
    isplitl [F13]; · iexact F13
    isplitl [S13]; · iexact S13
    iexact HO
  iintro ⟨T13, HO⟩
  iapply (wait_send a.w K a.c 16 (order.drop 20) (by decide) (slot_credit 4 5 2)) $$ [T16 HO]
  · isplitr; · iexact HK
    isplitl [T16]; · iexact T16
    iexact HO
  iintro ⟨T16, S16, HO⟩
  iapply (wait_recv a.w K a.c 16 (order.drop 20) (by decide) (slot_credit 5 5 2)) $$ [T16 HO]
  · isplitr; · iexact HK
    isplitl [T16]; · iexact T16
    iexact HO
  iintro ⟨T16, D, HO⟩
  ihave D := (Entails.of_eq (dstPts_one a.w a.c 16 20 (by decide) rfl rfl rfl)) $$ D
  icases D with ⟨L16, S20⟩
  simp only [wp_ret]
  imodintro
  iapply Hk
  isplitl [T13]; · iexact T13
  isplitl [T16]; · iexact T16
  isplitl [S16]; · iexact S16
  isplitl [L16]; · iexact L16
  isplitl [S20]; · iexact S20
  iexact HO

/-- Stretch 18: starts 20; waits for the send of 3; waits for the arrival of 3. -/
theorem part18_spec (v28 : BitVec 32) {Kt : (PUnit) → sProp 𝕄} :
    iprop(known a.w K
        ∗ idle (F := F) a.c 20
        ∗ freePts (F := F) (across a.c (link 20)) 20
        ∗ srcPts a.w a.c 20
        ∗ flying (F := F) a.c 3
        ∗ owing (F := F) a.c (owed a.c (order.drop 20)))
      ⊢ iprop(((flying (F := F) a.c 20 ∗ landed (F := F) a.c 3 ∗ srcPts a.w a.c 3 ∗ spare a.w a.c 3 ∗ kept a.w a.c 3 ∗ owing (F := F) a.c (owed a.c (order.drop 21))) -∗ Kt ⟨⟩)
          -∗ wp frame (wpE (defs₀ (F := F)) 𝒱₀ (a.c : Thread nD τ) none) Set.univ (on (k0_part18 (F := F)) a.c v28) Kt) := by
  rw [k0_part18_eq_skeleton]
  unfold k0_part18_skel
  simp only [Prog.lift, Prog.bind_op, Prog.bind_ret, Prog.pure_eq_ret]
  iintro ⟨#HK, T20, F20, S20, T3, HO⟩ Hk
  iapply (start_slot a.w K a.c _ 20 (order.drop 21) (dev24_eq a.c) (by decide)) $$ [T20 F20 S20 HO]
  · isplitr; · iexact HK
    isplitl [T20]; · iexact T20
    isplitl [F20]; · iexact F20
    isplitl [S20]; · iexact S20
    iexact HO
  iintro ⟨T20, HO⟩
  iapply (wait_send a.w K a.c 3 (order.drop 21) (by decide) (own_credit 4 0)) $$ [T3 HO]
  · isplitr; · iexact HK
    isplitl [T3]; · iexact T3
    iexact HO
  iintro ⟨T3, S3, HO⟩
  iapply (wait_recv a.w K a.c 3 (order.drop 21) (by decide) (slot_credit 4 4 0)) $$ [T3 HO]
  · isplitr; · iexact HK
    isplitl [T3]; · iexact T3
    iexact HO
  iintro ⟨T3, D, HO⟩
  ihave D := (Entails.of_eq (dstPts_none a.w a.c 3)) $$ D
  icases D with ⟨L3, U3⟩
  simp only [wp_ret]
  imodintro
  iapply Hk
  isplitl [T20]; · iexact T20
  isplitl [T3]; · iexact T3
  isplitl [S3]; · iexact S3
  isplitl [U3]; · iexact U3
  isplitl [L3]; · iexact L3
  iexact HO

/-- Stretch 19: waits for the send of 10, 17; waits for the arrival of 10, 17; loads slot 1. -/
theorem part19_spec (v29 v30 : BitVec 32) {Kt : (Vec F S1x4x256x512 .bf16) → sProp 𝕄} :
    iprop(known a.w K
        ∗ flying (F := F) a.c 10
        ∗ flying (F := F) a.c 17
        ∗ kept a.w a.c 0
        ∗ kept a.w a.c 15
        ∗ owing (F := F) a.c (owed a.c (order.drop 21)))
      ⊢ iprop(((landed (F := F) a.c 10 ∗ srcPts a.w a.c 10 ∗ spare a.w a.c 10 ∗ kept a.w a.c 10 ∗ landed (F := F) a.c 17 ∗ srcPts a.w a.c 17 ∗ spare a.w a.c 17 ∗ kept a.w a.c 17 ∗ kept a.w a.c 0 ∗ kept a.w a.c 15 ∗ owing (F := F) a.c (owed a.c (order.drop 21))) -∗ Kt (a.slot 1))
          -∗ wp frame (wpE (defs₀ (F := F)) 𝒱₀ (a.c : Thread nD τ) none) Set.univ (on (k0_part19 (F := F)) v29 v30) Kt) := by
  rw [k0_part19_eq_skeleton]
  unfold k0_part19_skel Point.slot
  simp only [Prog.lift, Prog.bind_op, Prog.bind_ret, Prog.pure_eq_ret]
  iintro ⟨#HK, T10, T17, L0, L15, HO⟩ Hk
  iapply (wait_send a.w K a.c 10 (order.drop 21) (by decide) (own_credit 1 1)) $$ [T10 HO]
  · isplitr; · iexact HK
    isplitl [T10]; · iexact T10
    iexact HO
  iintro ⟨T10, S10, HO⟩
  iapply (wait_recv a.w K a.c 10 (order.drop 21) (by decide) (slot_credit 1 1 1)) $$ [T10 HO]
  · isplitr; · iexact HK
    isplitl [T10]; · iexact T10
    iexact HO
  iintro ⟨T10, D, HO⟩
  ihave D := (Entails.of_eq (dstPts_none a.w a.c 10)) $$ D
  icases D with ⟨L10, U10⟩
  iapply (wait_send a.w K a.c 17 (order.drop 21) (by decide) (own_credit 3 2)) $$ [T17 HO]
  · isplitr; · iexact HK
    isplitl [T17]; · iexact T17
    iexact HO
  iintro ⟨T17, S17, HO⟩
  iapply (wait_recv a.w K a.c 17 (order.drop 21) (by decide) (slot_credit 3 3 2)) $$ [T17 HO]
  · isplitr; · iexact HK
    isplitl [T17]; · iexact T17
    iexact HO
  iintro ⟨T17, D, HO⟩
  ihave D := (Entails.of_eq (dstPts_none a.w a.c 17)) $$ D
  icases D with ⟨L17, U17⟩
  iapply (load_slot a.w a.c 1 0 10 15 ⟨rfl, rfl, rfl⟩ ⟨rfl, rfl, rfl⟩) $$ [L0 L10 L15]
  · isplitl [L0]; · iexact L0
    isplitl [L10]; · iexact L10
    iexact L15
  iintro ⟨L0, L10, L15⟩
  simp only [wp_ret]
  imodintro
  iapply Hk
  isplitl [T10]; · iexact T10
  isplitl [S10]; · iexact S10
  isplitl [U10]; · iexact U10
  isplitl [L10]; · iexact L10
  isplitl [T17]; · iexact T17
  isplitl [S17]; · iexact S17
  isplitl [U17]; · iexact U17
  isplitl [L17]; · iexact L17
  isplitl [L0]; · iexact L0
  isplitl [L15]; · iexact L15
  iexact HO

/-- Stretch 20: computes. -/
theorem part20_spec {Kt : (Σ' (v501 : FVec F S4x256x512 .bf16) (v502 : BitVec 32) (v538 : FVec F S1024x512 .f32) (v544 : FVec F S1024x1 .f32), IVec S1024x1 1) → sProp 𝕄} :
    (Kt ⟨a.w1, a.b1, a.acc1a, a.c1a, a.m1a⟩) ⊢ wp frame (wpE (defs₀ (F := F)) 𝒱₀ (a.c : Thread nD τ) none) Set.univ (on (k0_part20 (F := F)) a.me a.xs a.e0 a.e1 a.g0 a.g1 a.acc0 (a.slot 1)) Kt := by
  rw [k0_part20_eq_skeleton]
  unfold k0_part20_skel Point.m1a Point.c1a Point.acc1a Point.b1 Point.w1
  simp only [Prog.lift, Prog.bind_op, Prog.bind_ret, Prog.pure_eq_ret]
  simp only [wp_ret]
  iintro Hk
  imodintro
  iexact Hk

/-- Stretch 21: loads slot 3. -/
theorem part21_spec {Kt : (Σ' (v574 : FVec F S1024x512 .f32) (v576 : FVec F S4x256x512 .bf16) (v577 : BitVec 32), FVec F S1024x256 .f32) → sProp 𝕄} :
    iprop(kept a.w a.c 1
        ∗ kept a.w a.c 7
        ∗ kept a.w a.c 17)
      ⊢ iprop(((kept a.w a.c 1 ∗ kept a.w a.c 7 ∗ kept a.w a.c 17) -∗ Kt ⟨a.acc1, a.w3, a.b3, a.x3⟩)
          -∗ wp frame (wpE (defs₀ (F := F)) 𝒱₀ (a.c : Thread nD τ) none) Set.univ (on (k0_part21 (F := F)) a.me a.xs a.e0 a.e1 a.g0 a.g1 a.w1 a.b1 a.acc1a a.c1a a.m1a) Kt) := by
  rw [k0_part21_eq_skeleton]
  unfold k0_part21_skel Point.x3 Point.b3 Point.w3 Point.acc1 Point.slot
  simp only [Prog.lift, Prog.bind_op, Prog.bind_ret, Prog.pure_eq_ret]
  iintro ⟨L1, L7, L17⟩ Hk
  iapply (load_slot a.w a.c 3 1 7 17 ⟨rfl, rfl, rfl⟩ ⟨rfl, rfl, rfl⟩) $$ [L1 L7 L17]
  · isplitl [L1]; · iexact L1
    isplitl [L7]; · iexact L7
    iexact L17
  iintro ⟨L1, L7, L17⟩
  simp only [wp_ret]
  imodintro
  iapply Hk
  isplitl [L1]; · iexact L1
  isplitl [L7]; · iexact L7
  iexact L17

/-- Stretch 22: computes. -/
theorem part22_spec {Kt : (Σ' (v631 : FVec F S1024x512 .f32) (v633 : BitVec 32) (v635 : IVec S1024x1 1), FVec F S1024x1 .f32) → sProp 𝕄} :
    (Kt ⟨a.acc3a, a.n3a, a.m3a, (k0_pay25 (F := F))⟩) ⊢ wp frame (wpE (defs₀ (F := F)) 𝒱₀ (a.c : Thread nD τ) none) Set.univ (on (k0_part22 (F := F)) a.xs a.e0 a.e1 a.g0 a.g1 a.acc1 a.w3 a.b3 a.x3) Kt := by
  rw [k0_part22_eq_skeleton]
  unfold k0_part22_skel Point.m3a Point.n3a Point.acc3a
  simp only [Prog.lift, Prog.bind_op, Prog.bind_ret, Prog.pure_eq_ret]
  simp only [wp_ret]
  iintro Hk
  imodintro
  iexact Hk

/-- Stretch 23: loads slot 4. -/
theorem part23_spec {Kt : (Σ' (v651 : FVec F S4x256x512 .bf16) (v652 : BitVec 32) (v670 : FVec F S1024x512 .f32) (v676 : FVec F S1024x1 .f32), FVec F S1024x1 .f32) → sProp 𝕄} :
    iprop(kept a.w a.c 3
        ∗ kept a.w a.c 8
        ∗ kept a.w a.c 14)
      ⊢ iprop(((kept a.w a.c 3 ∗ kept a.w a.c 8 ∗ kept a.w a.c 14) -∗ Kt ⟨a.w4, a.b4, a.acc4a, a.p4a, a.q4a⟩)
          -∗ wp frame (wpE (defs₀ (F := F)) 𝒱₀ (a.c : Thread nD τ) none) Set.univ (on (k0_part23 (F := F)) a.me a.xs a.e0 a.e1 a.g0 a.g1 a.w3 a.acc3a a.n3a a.m3a (k0_pay25 (F := F))) Kt) := by
  rw [k0_part23_eq_skeleton]
  unfold k0_part23_skel Point.q4a Point.p4a Point.acc4a Point.b4 Point.w4 Point.slot
  simp only [Prog.lift, Prog.bind_op, Prog.bind_ret, Prog.pure_eq_ret]
  iintro ⟨L3, L8, L14⟩ Hk
  iapply (load_slot a.w a.c 4 3 8 14 ⟨rfl, rfl, rfl⟩ ⟨rfl, rfl, rfl⟩) $$ [L3 L8 L14]
  · isplitl [L3]; · iexact L3
    isplitl [L8]; · iexact L8
    iexact L14
  iintro ⟨L3, L8, L14⟩
  simp only [wp_ret]
  imodintro
  iapply Hk
  isplitl [L3]; · iexact L3
  isplitl [L8]; · iexact L8
  iexact L14

/-- Stretch 24: computes. -/
theorem part24_spec {Kt : (FVec F S1024x512 .f32) → sProp 𝕄} :
    (Kt a.acc4) ⊢ wp frame (wpE (defs₀ (F := F)) 𝒱₀ (a.c : Thread nD τ) none) Set.univ (on (k0_part24 (F := F)) a.xs a.e0 a.e1 a.g0 a.g1 a.w4 a.b4 a.acc4a a.p4a a.q4a) Kt := by
  rw [k0_part24_eq_skeleton]
  unfold k0_part24_skel Point.acc4
  simp only [Prog.lift, Prog.bind_op, Prog.bind_ret, Prog.pure_eq_ret]
  simp only [wp_ret]
  iintro Hk
  imodintro
  iexact Hk

end Cert.KernelIdeal.Exchange

end
-- ==== Proof.KernelIdeal.Finish.lean ====
/-
Stretches 25 to 36 of the body: the last arrivals, and the remaining slots' shares.
-/
module

public import proofs.«01_k».proof.Proof.KernelIdeal.Starts

@[expose] public section

noncomputable section

namespace Cert.KernelIdeal.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (a : Point F) (K : Dev nD × Which → ℕ)

/-- Stretch 25: waits for the send of 4, 11; waits for the arrival of 4. -/
theorem part25_spec (v31 v32 : BitVec 32) {Kt : (PUnit) → sProp 𝕄} :
    iprop(known a.w K
        ∗ flying (F := F) a.c 4
        ∗ flying (F := F) a.c 11
        ∗ owing (F := F) a.c (owed a.c (order.drop 21)))
      ⊢ iprop(((landed (F := F) a.c 4 ∗ srcPts a.w a.c 4 ∗ spare a.w a.c 4 ∗ kept a.w a.c 4 ∗ sent (F := F) a.c 11 ∗ srcPts a.w a.c 11 ∗ owing (F := F) a.c (owed a.c (order.drop 21))) -∗ Kt ⟨⟩)
          -∗ wp frame (wpE (defs₀ (F := F)) 𝒱₀ (a.c : Thread nD τ) none) Set.univ (on (k0_part25 (F := F)) v31 v32) Kt) := by
  rw [k0_part25_eq_skeleton]
  unfold k0_part25_skel
  simp only [Prog.lift, Prog.bind_op, Prog.bind_ret, Prog.pure_eq_ret]
  iintro ⟨#HK, T4, T11, HO⟩ Hk
  iapply (wait_send a.w K a.c 4 (order.drop 21) (by decide) (slot_credit 1 5 0)) $$ [T4 HO]
  · isplitr; · iexact HK
    isplitl [T4]; · iexact T4
    iexact HO
  iintro ⟨T4, S4, HO⟩
  iapply (wait_recv a.w K a.c 4 (order.drop 21) (by decide) (slot_credit 5 5 0)) $$ [T4 HO]
  · isplitr; · iexact HK
    isplitl [T4]; · iexact T4
    iexact HO
  iintro ⟨T4, D, HO⟩
  ihave D := (Entails.of_eq (dstPts_none a.w a.c 4)) $$ D
  icases D with ⟨L4, U4⟩
  iapply (wait_send a.w K a.c 11 (order.drop 21) (by decide) (slot_credit 3 2 1)) $$ [T11 HO]
  · isplitr; · iexact HK
    isplitl [T11]; · iexact T11
    iexact HO
  iintro ⟨T11, S11, HO⟩
  simp only [wp_ret]
  imodintro
  iapply Hk
  isplitl [T4]; · iexact T4
  isplitl [S4]; · iexact S4
  isplitl [U4]; · iexact U4
  isplitl [L4]; · iexact L4
  isplitl [T11]; · iexact T11
  isplitl [S11]; · iexact S11
  iexact HO

/-- Stretch 26: waits for the send of 18; waits for the arrival of 11, 18. -/
theorem part26_spec (v33 : BitVec 32) {Kt : (PUnit) → sProp 𝕄} :
    iprop(known a.w K
        ∗ sent (F := F) a.c 11
        ∗ flying (F := F) a.c 18
        ∗ owing (F := F) a.c (owed a.c (order.drop 21)))
      ⊢ iprop(((landed (F := F) a.c 11 ∗ spare a.w a.c 11 ∗ kept a.w a.c 11 ∗ landed (F := F) a.c 18 ∗ srcPts a.w a.c 18 ∗ spare a.w a.c 18 ∗ kept a.w a.c 18 ∗ owing (F := F) a.c (owed a.c (order.drop 21))) -∗ Kt ⟨⟩)
          -∗ wp frame (wpE (defs₀ (F := F)) 𝒱₀ (a.c : Thread nD τ) none) Set.univ (on (k0_part26 (F := F)) v33) Kt) := by
  rw [k0_part26_eq_skeleton]
  unfold k0_part26_skel
  simp only [Prog.lift, Prog.bind_op, Prog.bind_ret, Prog.pure_eq_ret]
  iintro ⟨#HK, T11, T18, HO⟩ Hk
  iapply (wait_recv a.w K a.c 11 (order.drop 21) (by decide) (slot_credit 2 2 1)) $$ [T11 HO]
  · isplitr; · iexact HK
    isplitl [T11]; · iexact T11
    iexact HO
  iintro ⟨T11, D, HO⟩
  ihave D := (Entails.of_eq (dstPts_none a.w a.c 11)) $$ D
  icases D with ⟨L11, U11⟩
  iapply (wait_send a.w K a.c 18 (order.drop 21) (by decide) (slot_credit 4 7 2)) $$ [T18 HO]
  · isplitr; · iexact HK
    isplitl [T18]; · iexact T18
    iexact HO
  iintro ⟨T18, S18, HO⟩
  iapply (wait_recv a.w K a.c 18 (order.drop 21) (by decide) (slot_credit 7 7 2)) $$ [T18 HO]
  · isplitr; · iexact HK
    isplitl [T18]; · iexact T18
    iexact HO
  iintro ⟨T18, D, HO⟩
  ihave D := (Entails.of_eq (dstPts_none a.w a.c 18)) $$ D
  icases D with ⟨L18, U18⟩
  simp only [wp_ret]
  imodintro
  iapply Hk
  isplitl [T11]; · iexact T11
  isplitl [U11]; · iexact U11
  isplitl [L11]; · iexact L11
  isplitl [T18]; · iexact T18
  isplitl [S18]; · iexact S18
  isplitl [U18]; · iexact U18
  isplitl [L18]; · iexact L18
  iexact HO

/-- Stretch 27: waits for the send of 5, 12; waits for the arrival of 5. -/
theorem part27_spec (v34 v35 : BitVec 32) {Kt : (PUnit) → sProp 𝕄} :
    iprop(known a.w K
        ∗ flying (F := F) a.c 5
        ∗ flying (F := F) a.c 12
        ∗ owing (F := F) a.c (owed a.c (order.drop 21)))
      ⊢ iprop(((landed (F := F) a.c 5 ∗ srcPts a.w a.c 5 ∗ spare a.w a.c 5 ∗ kept a.w a.c 5 ∗ sent (F := F) a.c 12 ∗ srcPts a.w a.c 12 ∗ owing (F := F) a.c (owed a.c (order.drop 21))) -∗ Kt ⟨⟩)
          -∗ wp frame (wpE (defs₀ (F := F)) 𝒱₀ (a.c : Thread nD τ) none) Set.univ (on (k0_part27 (F := F)) v34 v35) Kt) := by
  rw [k0_part27_eq_skeleton]
  unfold k0_part27_skel
  simp only [Prog.lift, Prog.bind_op, Prog.bind_ret, Prog.pure_eq_ret]
  iintro ⟨#HK, T5, T12, HO⟩ Hk
  iapply (wait_send a.w K a.c 5 (order.drop 21) (by decide) (slot_credit 3 7 0)) $$ [T5 HO]
  · isplitr; · iexact HK
    isplitl [T5]; · iexact T5
    iexact HO
  iintro ⟨T5, S5, HO⟩
  iapply (wait_recv a.w K a.c 5 (order.drop 21) (by decide) (slot_credit 7 7 0)) $$ [T5 HO]
  · isplitr; · iexact HK
    isplitl [T5]; · iexact T5
    iexact HO
  iintro ⟨T5, D, HO⟩
  ihave D := (Entails.of_eq (dstPts_none a.w a.c 5)) $$ D
  icases D with ⟨L5, U5⟩
  iapply (wait_send a.w K a.c 12 (order.drop 21) (by decide) (slot_credit 4 5 1)) $$ [T12 HO]
  · isplitr; · iexact HK
    isplitl [T12]; · iexact T12
    iexact HO
  iintro ⟨T12, S12, HO⟩
  simp only [wp_ret]
  imodintro
  iapply Hk
  isplitl [T5]; · iexact T5
  isplitl [S5]; · iexact S5
  isplitl [U5]; · iexact U5
  isplitl [L5]; · iexact L5
  isplitl [T12]; · iexact T12
  isplitl [S12]; · iexact S12
  iexact HO

/-- Stretch 28: waits for the send of 19; waits for the arrival of 12, 19; loads slot 2. -/
theorem part28_spec (v36 : BitVec 32) {Kt : (Σ' (v810 : FVec F S4x256x512 .bf16) (v811 : BitVec 32) (v812 : BitVec 32), BitVec 32) → sProp 𝕄} :
    iprop(known a.w K
        ∗ sent (F := F) a.c 12
        ∗ flying (F := F) a.c 19
        ∗ kept a.w a.c 2
        ∗ kept a.w a.c 11
        ∗ owing (F := F) a.c (owed a.c (order.drop 21)))
      ⊢ iprop(((landed (F := F) a.c 12 ∗ spare a.w a.c 12 ∗ kept a.w a.c 12 ∗ landed (F := F) a.c 19 ∗ srcPts a.w a.c 19 ∗ spare a.w a.c 19 ∗ kept a.w a.c 19 ∗ kept a.w a.c 2 ∗ kept a.w a.c 11 ∗ owing (F := F) a.c (owed a.c (order.drop 21))) -∗ Kt ⟨a.w2, a.b2, a.b2x4, 0#32⟩)
          -∗ wp frame (wpE (defs₀ (F := F)) 𝒱₀ (a.c : Thread nD τ) none) Set.univ (on (k0_part28 (F := F)) a.me v36) Kt) := by
  rw [k0_part28_eq_skeleton]
  unfold k0_part28_skel Point.b2x4 Point.b2 Point.w2 Point.slot
  simp only [Prog.lift, Prog.bind_op, Prog.bind_ret, Prog.pure_eq_ret]
  iintro ⟨#HK, T12, T19, L2, L11, HO⟩ Hk
  iapply (wait_recv a.w K a.c 12 (order.drop 21) (by decide) (slot_credit 5 5 1)) $$ [T12 HO]
  · isplitr; · iexact HK
    isplitl [T12]; · iexact T12
    iexact HO
  iintro ⟨T12, D, HO⟩
  ihave D := (Entails.of_eq (dstPts_none a.w a.c 12)) $$ D
  icases D with ⟨L12, U12⟩
  iapply (wait_send a.w K a.c 19 (order.drop 21) (by decide) (slot_credit 1 2 2)) $$ [T19 HO]
  · isplitr; · iexact HK
    isplitl [T19]; · iexact T19
    iexact HO
  iintro ⟨T19, S19, HO⟩
  iapply (wait_recv a.w K a.c 19 (order.drop 21) (by decide) (slot_credit 2 2 2)) $$ [T19 HO]
  · isplitr; · iexact HK
    isplitl [T19]; · iexact T19
    iexact HO
  iintro ⟨T19, D, HO⟩
  ihave D := (Entails.of_eq (dstPts_none a.w a.c 19)) $$ D
  icases D with ⟨L19, U19⟩
  iapply (load_slot a.w a.c 2 2 11 19 ⟨rfl, rfl, rfl⟩ ⟨rfl, rfl, rfl⟩) $$ [L2 L11 L19]
  · isplitl [L2]; · iexact L2
    isplitl [L11]; · iexact L11
    iexact L19
  iintro ⟨L2, L11, L19⟩
  simp only [wp_ret]
  imodintro
  iapply Hk
  isplitl [T12]; · iexact T12
  isplitl [U12]; · iexact U12
  isplitl [L12]; · iexact L12
  isplitl [T19]; · iexact T19
  isplitl [S19]; · iexact S19
  isplitl [U19]; · iexact U19
  isplitl [L19]; · iexact L19
  isplitl [L2]; · iexact L2
  isplitl [L11]; · iexact L11
  iexact HO

/-- Stretch 29: computes. -/
theorem part29_spec {Kt : (Σ' (v847 : FVec F S1024x512 .f32), FVec F S1024x256 .f32) → sProp 𝕄} :
    (Kt ⟨a.acc2a, a.x2a⟩) ⊢ wp frame (wpE (defs₀ (F := F)) 𝒱₀ (a.c : Thread nD τ) none) Set.univ (on (k0_part29 (F := F)) a.xs a.e0 a.e1 a.g0 a.g1 a.acc4 a.w2 a.b2 a.b2x4 0#32) Kt := by
  rw [k0_part29_eq_skeleton]
  unfold k0_part29_skel Point.x2a Point.acc2a
  simp only [Prog.lift, Prog.bind_op, Prog.bind_ret, Prog.pure_eq_ret]
  simp only [wp_ret]
  iintro Hk
  imodintro
  iexact Hk

/-- Stretch 30: loads slot 5. -/
theorem part30_spec {Kt : (Σ' (v885 : FVec F S4x256x512 .bf16) (v886 : BitVec 32), FVec F S1024x512 .f32) → sProp 𝕄} :
    iprop(kept a.w a.c 4
        ∗ kept a.w a.c 12
        ∗ kept a.w a.c 16)
      ⊢ iprop(((kept a.w a.c 4 ∗ kept a.w a.c 12 ∗ kept a.w a.c 16) -∗ Kt ⟨a.w5, a.b5, a.acc5a⟩)
          -∗ wp frame (wpE (defs₀ (F := F)) 𝒱₀ (a.c : Thread nD τ) none) Set.univ (on (k0_part30 (F := F)) a.me a.xs a.e0 a.e1 a.g0 a.g1 a.w2 a.b2 a.acc2a a.x2a) Kt) := by
  rw [k0_part30_eq_skeleton]
  unfold k0_part30_skel Point.acc5a Point.b5 Point.w5 Point.slot
  simp only [Prog.lift, Prog.bind_op, Prog.bind_ret, Prog.pure_eq_ret]
  iintro ⟨L4, L12, L16⟩ Hk
  iapply (load_slot a.w a.c 5 4 12 16 ⟨rfl, rfl, rfl⟩ ⟨rfl, rfl, rfl⟩) $$ [L4 L12 L16]
  · isplitl [L4]; · iexact L4
    isplitl [L12]; · iexact L12
    iexact L16
  iintro ⟨L4, L12, L16⟩
  simp only [wp_ret]
  imodintro
  iapply Hk
  isplitl [L4]; · iexact L4
  isplitl [L12]; · iexact L12
  iexact L16

/-- Stretch 31: computes. -/
theorem part31_spec {Kt : (Σ' (v940 : FVec F S1024x512 .f32) (v946 : FVec F S1024x1 .f32), FVec F S1024x1 .f32) → sProp 𝕄} :
    (Kt ⟨a.acc5b, a.p5b, a.q5b⟩) ⊢ wp frame (wpE (defs₀ (F := F)) 𝒱₀ (a.c : Thread nD τ) none) Set.univ (on (k0_part31 (F := F)) a.xs a.e0 a.e1 a.g0 a.g1 a.w5 a.b5 a.acc5a) Kt := by
  rw [k0_part31_eq_skeleton]
  unfold k0_part31_skel Point.q5b Point.p5b Point.acc5b
  simp only [Prog.lift, Prog.bind_op, Prog.bind_ret, Prog.pure_eq_ret]
  simp only [wp_ret]
  iintro Hk
  imodintro
  iexact Hk

/-- Stretch 32: loads slot 7. -/
theorem part32_spec {Kt : (Σ' (v960 : FVec F S4x256x512 .bf16) (v961 : BitVec 32) (v979 : FVec F S1024x512 .f32) (v993 : FVec F S1024x256 .bf16), FVec F S256x512 .bf16) → sProp 𝕄} :
    iprop(kept a.w a.c 5
        ∗ kept a.w a.c 9
        ∗ kept a.w a.c 18)
      ⊢ iprop(((kept a.w a.c 5 ∗ kept a.w a.c 9 ∗ kept a.w a.c 18) -∗ Kt ⟨a.w7, a.b7, a.acc7a, a.x7a, a.y7a⟩)
          -∗ wp frame (wpE (defs₀ (F := F)) 𝒱₀ (a.c : Thread nD τ) none) Set.univ (on (k0_part32 (F := F)) a.me a.xs a.e0 a.e1 a.g0 a.g1 a.w5 a.acc5b a.p5b a.q5b) Kt) := by
  rw [k0_part32_eq_skeleton]
  unfold k0_part32_skel Point.y7a Point.x7a Point.acc7a Point.b7 Point.w7 Point.slot
  simp only [Prog.lift, Prog.bind_op, Prog.bind_ret, Prog.pure_eq_ret]
  iintro ⟨L5, L9, L18⟩ Hk
  iapply (load_slot a.w a.c 7 5 9 18 ⟨rfl, rfl, rfl⟩ ⟨rfl, rfl, rfl⟩) $$ [L5 L9 L18]
  · isplitl [L5]; · iexact L5
    isplitl [L9]; · iexact L9
    iexact L18
  iintro ⟨L5, L9, L18⟩
  simp only [wp_ret]
  imodintro
  iapply Hk
  isplitl [L5]; · iexact L5
  isplitl [L9]; · iexact L9
  iexact L18

/-- Stretch 33: computes. -/
theorem part33_spec {Kt : (FVec F S1024x512 .f32) → sProp 𝕄} :
    (Kt a.acc7) ⊢ wp frame (wpE (defs₀ (F := F)) 𝒱₀ (a.c : Thread nD τ) none) Set.univ (on (k0_part33 (F := F)) a.xs a.e0 a.e1 a.g0 a.g1 a.w7 a.b7 a.acc7a a.x7a a.y7a) Kt := by
  rw [k0_part33_eq_skeleton]
  unfold k0_part33_skel Point.acc7
  simp only [Prog.lift, Prog.bind_op, Prog.bind_ret, Prog.pure_eq_ret]
  simp only [wp_ret]
  iintro Hk
  imodintro
  iexact Hk

/-- Stretch 34: waits for the send of 6, 13; waits for the arrival of 6. -/
theorem part34_spec (v37 v38 : BitVec 32) {Kt : (PUnit) → sProp 𝕄} :
    iprop(known a.w K
        ∗ flying (F := F) a.c 6
        ∗ flying (F := F) a.c 13
        ∗ owing (F := F) a.c (owed a.c (order.drop 21)))
      ⊢ iprop(((landed (F := F) a.c 6 ∗ srcPts a.w a.c 6 ∗ spare a.w a.c 6 ∗ kept a.w a.c 6 ∗ sent (F := F) a.c 13 ∗ srcPts a.w a.c 13 ∗ owing (F := F) a.c (owed a.c (order.drop 21))) -∗ Kt ⟨⟩)
          -∗ wp frame (wpE (defs₀ (F := F)) 𝒱₀ (a.c : Thread nD τ) none) Set.univ (on (k0_part34 (F := F)) v37 v38) Kt) := by
  rw [k0_part34_eq_skeleton]
  unfold k0_part34_skel
  simp only [Prog.lift, Prog.bind_op, Prog.bind_ret, Prog.pure_eq_ret]
  iintro ⟨#HK, T6, T13, HO⟩ Hk
  iapply (wait_send a.w K a.c 6 (order.drop 21) (by decide) (slot_credit 2 6 0)) $$ [T6 HO]
  · isplitr; · iexact HK
    isplitl [T6]; · iexact T6
    iexact HO
  iintro ⟨T6, S6, HO⟩
  iapply (wait_recv a.w K a.c 6 (order.drop 21) (by decide) (slot_credit 6 6 0)) $$ [T6 HO]
  · isplitr; · iexact HK
    isplitl [T6]; · iexact T6
    iexact HO
  iintro ⟨T6, D, HO⟩
  ihave D := (Entails.of_eq (dstPts_none a.w a.c 6)) $$ D
  icases D with ⟨L6, U6⟩
  iapply (wait_send a.w K a.c 13 (order.drop 21) (by decide) (slot_credit 7 6 1)) $$ [T13 HO]
  · isplitr; · iexact HK
    isplitl [T13]; · iexact T13
    iexact HO
  iintro ⟨T13, S13, HO⟩
  simp only [wp_ret]
  imodintro
  iapply Hk
  isplitl [T6]; · iexact T6
  isplitl [S6]; · iexact S6
  isplitl [U6]; · iexact U6
  isplitl [L6]; · iexact L6
  isplitl [T13]; · iexact T13
  isplitl [S13]; · iexact S13
  iexact HO

/-- Stretch 35: waits for the send of 20; waits for the arrival of 13, 20; loads slot 6. -/
theorem part35_spec (v39 : BitVec 32) {Kt : (Σ' (v1077 : FVec F S4x256x512 .bf16) (v1078 : BitVec 32) (v1080 : BitVec 32), IVec S1024x1 1) → sProp 𝕄} :
    iprop(known a.w K
        ∗ sent (F := F) a.c 13
        ∗ flying (F := F) a.c 20
        ∗ kept a.w a.c 6
        ∗ owing (F := F) a.c (owed a.c (order.drop 21)))
      ⊢ iprop(((landed (F := F) a.c 13 ∗ spare a.w a.c 13 ∗ kept a.w a.c 13 ∗ landed (F := F) a.c 20 ∗ srcPts a.w a.c 20 ∗ spare a.w a.c 20 ∗ kept a.w a.c 20 ∗ kept a.w a.c 6 ∗ owing (F := F) a.c (owed a.c (order.drop 21))) -∗ Kt ⟨a.w6, a.b6, a.n6, a.m6⟩)
          -∗ wp frame (wpE (defs₀ (F := F)) 𝒱₀ (a.c : Thread nD τ) none) Set.univ (on (k0_part35 (F := F)) a.me v39 a.e0) Kt) := by
  rw [k0_part35_eq_skeleton]
  unfold k0_part35_skel Point.m6 Point.n6 Point.b6 Point.w6 Point.slot
  simp only [Prog.lift, Prog.bind_op, Prog.bind_ret, Prog.pure_eq_ret]
  iintro ⟨#HK, T13, T20, L6, HO⟩ Hk
  iapply (wait_recv a.w K a.c 13 (order.drop 21) (by decide) (slot_credit 6 6 1)) $$ [T13 HO]
  · isplitr; · iexact HK
    isplitl [T13]; · iexact T13
    iexact HO
  iintro ⟨T13, D, HO⟩
  ihave D := (Entails.of_eq (dstPts_none a.w a.c 13)) $$ D
  icases D with ⟨L13, U13⟩
  iapply (wait_send a.w K a.c 20 (order.drop 21) (by decide) (slot_credit 5 6 2)) $$ [T20 HO]
  · isplitr; · iexact HK
    isplitl [T20]; · iexact T20
    iexact HO
  iintro ⟨T20, S20, HO⟩
  iapply (wait_recv a.w K a.c 20 (order.drop 21) (by decide) (slot_credit 6 6 2)) $$ [T20 HO]
  · isplitr; · iexact HK
    isplitl [T20]; · iexact T20
    iexact HO
  iintro ⟨T20, D, HO⟩
  ihave D := (Entails.of_eq (dstPts_none a.w a.c 20)) $$ D
  icases D with ⟨L20, U20⟩
  iapply (load_slot a.w a.c 6 6 13 20 ⟨rfl, rfl, rfl⟩ ⟨rfl, rfl, rfl⟩) $$ [L6 L13 L20]
  · isplitl [L6]; · iexact L6
    isplitl [L13]; · iexact L13
    iexact L20
  iintro ⟨L6, L13, L20⟩
  simp only [wp_ret]
  imodintro
  iapply Hk
  isplitl [T13]; · iexact T13
  isplitl [U13]; · iexact U13
  isplitl [L13]; · iexact L13
  isplitl [T20]; · iexact T20
  isplitl [S20]; · iexact S20
  isplitl [U20]; · iexact U20
  isplitl [L20]; · iexact L20
  isplitl [L6]; · iexact L6
  iexact HO

/-- Stretch 36: computes. -/
theorem part36_spec {Kt : (Σ' (v1114 : FVec F S1024x512 .f32) (v1128 : FVec F S1024x256 .bf16), FVec F S256x512 .bf16) → sProp 𝕄} :
    (Kt ⟨a.acc6a, a.x6a, a.y6a⟩) ⊢ wp frame (wpE (defs₀ (F := F)) 𝒱₀ (a.c : Thread nD τ) none) Set.univ (on (k0_part36 (F := F)) a.xs a.e0 a.e1 a.g0 a.g1 a.acc7 a.w6 a.b6 a.n6 a.m6) Kt := by
  rw [k0_part36_eq_skeleton]
  unfold k0_part36_skel Point.y6a Point.x6a Point.acc6a
  simp only [Prog.lift, Prog.bind_op, Prog.bind_ret, Prog.pure_eq_ret]
  simp only [wp_ret]
  iintro Hk
  imodintro
  iexact Hk

end Cert.KernelIdeal.Exchange

end
-- ==== Proof.KernelIdeal.Body.lean ====
/-
The whole body: its stretches one after another, from the handshake to the stored result block.
-/
module

public import proofs.«01_k».proof.Proof.KernelIdeal.Middle
public import proofs.«01_k».proof.Proof.KernelIdeal.Finish

@[expose] public section

noncomputable section

namespace Cert.KernelIdeal.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

/-- A family over the transfers, spelt out. -/
theorem bigSep_transfers (Φ : Fin 21 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

/-- The own experts' parts, back together. -/
theorem own_whole (a : Point F) :
    iprop(ownKept a.w a.c 0 ∗ srcPts a.w a.c 0 ∗ srcPts a.w a.c 1 ∗ srcPts a.w a.c 3 ∗ ownKept a.w a.c 1 ∗ srcPts a.w a.c 7 ∗ srcPts a.w a.c 8 ∗ srcPts a.w a.c 10 ∗ ownKept a.w a.c 2 ∗ srcPts a.w a.c 14 ∗ srcPts a.w a.c 15 ∗ srcPts a.w a.c 17)
      ⊢ (iprop(∃ f : (cc0_scratch1 : Ref sig .tc).ty.Contents (Elt F), ownM.view.loc (a.c : Thread nD τ) ↦{fullShare} f) : sProp 𝕄) := by
  iintro ⟨O0, S0, S1, S3, O1, S7, S8, S10, O2, S14, S15, S17⟩
  iexists (a.w a.c : (cc0_scratch1 : Ref sig .tc).ty.Contents (Elt F))
  rw [own_parts]
  isplitl [O0 S0 S1 S3]
  · rw [ownPts_three a.w a.c 0 0 1 3 ⟨rfl, rfl, rfl⟩ ⟨rfl, rfl, rfl⟩ rfl rfl rfl]
    isplitl [O0]; · iexact O0
    isplitl [S0]; · iexact S0
    isplitl [S1]; · iexact S1
    iexact S3
  isplitl [O1 S7 S8 S10]
  · rw [ownPts_three a.w a.c 1 7 8 10 ⟨rfl, rfl, rfl⟩ ⟨rfl, rfl, rfl⟩ rfl rfl rfl]
    isplitl [O1]; · iexact O1
    isplitl [S7]; · iexact S7
    isplitl [S8]; · iexact S8
    iexact S10
  rw [ownPts_three a.w a.c 2 14 15 17 ⟨rfl, rfl, rfl⟩ ⟨rfl, rfl, rfl⟩ rfl rfl rfl]
  isplitl [O2]; · iexact O2
  isplitl [S14]; · iexact S14
  isplitl [S15]; · iexact S15
  iexact S17

/-- The arrived parts, back together with slot 0. -/
theorem comm_back (a : Point F) :
    iprop(kept a.w a.c 0 ∗ srcPts a.w a.c 2 ∗ srcPts a.w a.c 4 ∗ kept a.w a.c 1 ∗ srcPts a.w a.c 5 ∗ kept a.w a.c 2 ∗ srcPts a.w a.c 6 ∗ kept a.w a.c 3 ∗ spare a.w a.c 3 ∗ kept a.w a.c 4 ∗ spare a.w a.c 4 ∗ kept a.w a.c 5 ∗ spare a.w a.c 5 ∗ kept a.w a.c 6 ∗ spare a.w a.c 6 ∗ kept a.w a.c 7 ∗ srcPts a.w a.c 9 ∗ srcPts a.w a.c 11 ∗ kept a.w a.c 8 ∗ srcPts a.w a.c 12 ∗ kept a.w a.c 9 ∗ srcPts a.w a.c 13 ∗ kept a.w a.c 10 ∗ spare a.w a.c 10 ∗ kept a.w a.c 11 ∗ spare a.w a.c 11 ∗ kept a.w a.c 12 ∗ spare a.w a.c 12 ∗ kept a.w a.c 13 ∗ spare a.w a.c 13 ∗ kept a.w a.c 14 ∗ srcPts a.w a.c 16 ∗ srcPts a.w a.c 18 ∗ kept a.w a.c 15 ∗ srcPts a.w a.c 19 ∗ kept a.w a.c 16 ∗ srcPts a.w a.c 20 ∗ kept a.w a.c 17 ∗ spare a.w a.c 17 ∗ kept a.w a.c 18 ∗ spare a.w a.c 18 ∗ kept a.w a.c 19 ∗ spare a.w a.c 19 ∗ kept a.w a.c 20 ∗ spare a.w a.c 20 ∗ (bigSep Finset.univ fun p => freeAt (F := F) a.c 0 p))
      ⊢ (iprop(∃ f : (cc0_scratch0 : Ref sig .tc).ty.Contents (Elt F), commM.view.loc (a.c : Thread nD τ) ↦{fullShare} f) : sProp 𝕄) := by
  iintro ⟨L0, S2, S4, L1, S5, L2, S6, L3, U3, L4, U4, L5, U5, L6, U6, L7, S9, S11, L8, S12, L9, S13, L10, U10, L11, U11, L12, U12, L13, U13, L14, S16, S18, L15, S19, L16, S20, L17, U17, L18, U18, L19, U19, L20, U20, Hz⟩
  iapply (comm_whole a.w a.c)
  isplitr [Hz]
  · rw [bigSep_transfers]
    isplitl [L0 S2 S4]
    · rw [dstPts_two a.w a.c 0 2 4 (by decide) rfl rfl (by decide) rfl rfl rfl rfl]
      isplitl [L0]; · iexact L0
      isplitl [S2]; · iexact S2
      iexact S4
    isplitl [L1 S5]
    · rw [dstPts_one a.w a.c 1 5 (by decide) rfl rfl rfl]
      isplitl [L1]; · iexact L1
      iexact S5
    isplitl [L2 S6]
    · rw [dstPts_one a.w a.c 2 6 (by decide) rfl rfl rfl]
      isplitl [L2]; · iexact L2
      iexact S6
    isplitl [L3 U3]
    · rw [dstPts_none a.w a.c 3]
      isplitl [L3]; · iexact L3
      iexact U3
    isplitl [L4 U4]
    · rw [dstPts_none a.w a.c 4]
      isplitl [L4]; · iexact L4
      iexact U4
    isplitl [L5 U5]
    · rw [dstPts_none a.w a.c 5]
      isplitl [L5]; · iexact L5
      iexact U5
    isplitl [L6 U6]
    · rw [dstPts_none a.w a.c 6]
      isplitl [L6]; · iexact L6
      iexact U6
    isplitl [L7 S9 S11]
    · rw [dstPts_two a.w a.c 7 9 11 (by decide) rfl rfl (by decide) rfl rfl rfl rfl]
      isplitl [L7]; · iexact L7
      isplitl [S9]; · iexact S9
      iexact S11
    isplitl [L8 S12]
    · rw [dstPts_one a.w a.c 8 12 (by decide) rfl rfl rfl]
      isplitl [L8]; · iexact L8
      iexact S12
    isplitl [L9 S13]
    · rw [dstPts_one a.w a.c 9 13 (by decide) rfl rfl rfl]
      isplitl [L9]; · iexact L9
      iexact S13
    isplitl [L10 U10]
    · rw [dstPts_none a.w a.c 10]
      isplitl [L10]; · iexact L10
      iexact U10
    isplitl [L11 U11]
    · rw [dstPts_none a.w a.c 11]
      isplitl [L11]; · iexact L11
      iexact U11
    isplitl [L12 U12]
    · rw [dstPts_none a.w a.c 12]
      isplitl [L12]; · iexact L12
      iexact U12
    isplitl [L13 U13]
    · rw [dstPts_none a.w a.c 13]
      isplitl [L13]; · iexact L13
      iexact U13
    isplitl [L14 S16 S18]
    · rw [dstPts_two a.w a.c 14 16 18 (by decide) rfl rfl (by decide) rfl rfl rfl rfl]
      isplitl [L14]; · iexact L14
      isplitl [S16]; · iexact S16
      iexact S18
    isplitl [L15 S19]
    · rw [dstPts_one a.w a.c 15 19 (by decide) rfl rfl rfl]
      isplitl [L15]; · iexact L15
      iexact S19
    isplitl [L16 S20]
    · rw [dstPts_one a.w a.c 16 20 (by decide) rfl rfl rfl]
      isplitl [L16]; · iexact L16
      iexact S20
    isplitl [L17 U17]
    · rw [dstPts_none a.w a.c 17]
      isplitl [L17]; · iexact L17
      iexact U17
    isplitl [L18 U18]
    · rw [dstPts_none a.w a.c 18]
      isplitl [L18]; · iexact L18
      iexact U18
    isplitl [L19 U19]
    · rw [dstPts_none a.w a.c 19]
      isplitl [L19]; · iexact L19
      iexact U19
    rw [dstPts_none a.w a.c 20]
    isplitl [L20]; · iexact L20
    iexact U20
  · iexact Hz

/-- What a body starts from, -/
def bodyIn (a : Point F) (K : Dev nD × Which → ℕ) (e : Vec F S4x256x512 .f32) : sProp 𝕄 :=
  iprop(known a.w K ∗ owing (F := F) a.c (owed₀ a.c)
    ∗ dutyTok EX (barCell (across a.c 0)) 0 0 ∗ dutyTok EX (barCell (across a.c 1)) 0 1 ∗ dutyTok EX (barCell (across a.c 2)) 0 2
    ∗ atPos EX (barCell a.c) 0 ∅ 0 ∗ cred (tallyAt (barCell a.c) () 3)
    ∗ (∃ f : (cc0_scratch0 : Ref sig .tc).ty.Contents (Elt F), commM.view.loc (a.c : Thread nD τ) ↦{fullShare} f)
    ∗ (∃ f : (cc0_scratch1 : Ref sig .tc).ty.Contents (Elt F), ownM.view.loc (a.c : Thread nD τ) ↦{fullShare} f)
    ∗ ePts a.c e ∗ xPts a ∗ rPts a ∗ iPts a ∗ (∃ o, oPts (F := F) a.c o) ∗ bigSep Finset.univ fun s => idle (F := F) a.c s)

/-- and what it leaves. -/
def bodyOut (a : Point F) (e : Vec F S4x256x512 .f32) : sProp 𝕄 :=
  iprop(owing (F := F) a.c 0 ∗ semVal (barCell a.c) 0 ∗ (bigSep Finset.univ fun s => landed (F := F) a.c s)
    ∗ (∃ f : (cc0_scratch0 : Ref sig .tc).ty.Contents (Elt F), commM.view.loc (a.c : Thread nD τ) ↦{fullShare} f)
    ∗ (∃ f : (cc0_scratch1 : Ref sig .tc).ty.Contents (Elt F), ownM.view.loc (a.c : Thread nD τ) ↦{fullShare} f)
    ∗ ePts a.c e ∗ xPts a ∗ rPts a ∗ iPts a ∗ oPts a.c a.out)

set_option maxHeartbeats 4000000 in
set_option maxRecDepth 8000 in
/-- The body, stretch by stretch. -/
theorem exchange_body (a : Point F) (K : Dev nD × Which → ℕ) (e : Vec F S4x256x512 .f32) (he : a.w a.c = k0_pay2 e) (Kt : PUnit → sProp 𝕄) :
    iprop(bodyIn a K e ∗ (bodyOut a e -∗ Kt ⟨⟩))
      ⊢ wp frame (wpE (defs₀ (F := F)) 𝒱₀ (a.c : Thread nD τ) none) Set.univ (on (cc0_body (F := F))) Kt := by
  rw [cc0_body_eq_skeleton]; unfold cc0_body_skel
  rw [k0_part37_eq_skeleton]; unfold k0_part37_skel
  rw [wp_bind, wp_bind]
  unfold bodyIn
  rw [bigSep_transfers]
  iintro ⟨⟨#HK, HO, HtA, HtB, HtC, Ha, Hc, Hcomm, Hown, He, HX, HR, HI, ⟨%o, Ho⟩, T0, T1, T2, T3, T4, T5, T6, T7, T8, T9, T10, T11, T12, T13, T14, T15, T16, T17, T18, T19, T20⟩, Hk⟩
  iapply (part1_spec a K e he) $$ [HO HtA HtB HtC Ha Hc Hcomm Hown He]
  · isplitr; · iexact HK
    isplitl [HO]; · iexact HO
    isplitl [HtA]; · iexact HtA
    isplitl [HtB]; · iexact HtB
    isplitl [HtC]; · iexact HtC
    isplitl [Ha]; · iexact Ha
    isplitl [Hc]; · iexact Hc
    isplitl [Hcomm]; · iexact Hcomm
    isplitl [Hown]; · iexact Hown
    iexact He
  rw [bigSep_transfers]
  rw [ownPts_three a.w a.c 0 0 1 3 ⟨rfl, rfl, rfl⟩ ⟨rfl, rfl, rfl⟩ rfl rfl rfl]
  rw [ownPts_three a.w a.c 1 7 8 10 ⟨rfl, rfl, rfl⟩ ⟨rfl, rfl, rfl⟩ rfl rfl rfl]
  rw [ownPts_three a.w a.c 2 14 15 17 ⟨rfl, rfl, rfl⟩ ⟨rfl, rfl, rfl⟩ rfl rfl rfl]
  iintro ⟨HO, Hz, ⟨F0, F1, F2, F3, F4, F5, F6, F7, F8, F9, F10, F11, F12, F13, F14, F15, F16, F17, F18, F19, F20⟩, Hfree, ⟨O0, S0, S1, S3⟩, ⟨O1, S7, S8, S10⟩, ⟨O2, S14, S15, S17⟩, He⟩
  try dsimp only
  rw [wp_bind]
  iapply (part2_spec a K _ _ _) $$ [T0 F0 S0 HO]
  · isplitr; · iexact HK
    isplitl [T0]; · iexact T0
    isplitl [F0]; · iexact F0
    isplitl [S0]; · iexact S0
    iexact HO
  iintro ⟨T0, HO⟩
  try dsimp only
  rw [wp_bind]
  iapply (part3_spec a K _ _ _) $$ [T7 F7 S7 T14 F14 S14 T1 F1 S1 HO]
  · isplitr; · iexact HK
    isplitl [T7]; · iexact T7
    isplitl [F7]; · iexact F7
    isplitl [S7]; · iexact S7
    isplitl [T14]; · iexact T14
    isplitl [F14]; · iexact F14
    isplitl [S14]; · iexact S14
    isplitl [T1]; · iexact T1
    isplitl [F1]; · iexact F1
    isplitl [S1]; · iexact S1
    iexact HO
  iintro ⟨T7, T14, T1, HO⟩
  try dsimp only
  rw [wp_bind]
  iapply (part4_spec a K _ _) $$ [T8 F8 S8 T15 F15 S15 T3 F3 S3 HO]
  · isplitr; · iexact HK
    isplitl [T8]; · iexact T8
    isplitl [F8]; · iexact F8
    isplitl [S8]; · iexact S8
    isplitl [T15]; · iexact T15
    isplitl [F15]; · iexact F15
    isplitl [S15]; · iexact S15
    isplitl [T3]; · iexact T3
    isplitl [F3]; · iexact F3
    isplitl [S3]; · iexact S3
    iexact HO
  iintro ⟨T8, T15, T3, HO⟩
  try dsimp only
  rw [wp_bind]
  iapply (part5_spec a K _ _ _) $$ [T10 F10 S10 T17 F17 S17 HX HR HO]
  · isplitr; · iexact HK
    isplitl [T10]; · iexact T10
    isplitl [F10]; · iexact F10
    isplitl [S10]; · iexact S10
    isplitl [T17]; · iexact T17
    isplitl [F17]; · iexact F17
    isplitl [S17]; · iexact S17
    isplitl [HX]; · iexact HX
    isplitl [HR]; · iexact HR
    iexact HO
  iintro ⟨T10, T17, HX, HR, HO⟩
  try dsimp only
  rw [wp_bind]
  iapply (part6_spec a) $$ [HI O0 O1 O2]
  · isplitl [HI]; · iexact HI
    isplitl [O0]; · iexact O0
    isplitl [O1]; · iexact O1
    iexact O2
  iintro ⟨HI, O0, O1, O2⟩
  try dsimp only
  rw [wp_bind]
  iapply (part7_spec a)
  try dsimp only
  rw [wp_bind]
  iapply (part8_spec a K _ _) $$ [T0 HO]
  · isplitr; · iexact HK
    isplitl [T0]; · iexact T0
    iexact HO
  iintro ⟨T0, S0, L0, S2, S4, HO⟩
  try dsimp only
  rw [wp_bind]
  iapply (part9_spec a K _ _) $$ [T2 F2 S2 T4 F4 S4 T7 HO]
  · isplitr; · iexact HK
    isplitl [T2]; · iexact T2
    isplitl [F2]; · iexact F2
    isplitl [S2]; · iexact S2
    isplitl [T4]; · iexact T4
    isplitl [F4]; · iexact F4
    isplitl [S4]; · iexact S4
    isplitl [T7]; · iexact T7
    iexact HO
  iintro ⟨T2, T4, T7, S7, HO⟩
  try dsimp only
  rw [wp_bind]
  iapply (part10_spec a K _ _) $$ [T7 T9 F9 T11 F11 HO]
  · isplitr; · iexact HK
    isplitl [T7]; · iexact T7
    isplitl [T9]; · iexact T9
    isplitl [F9]; · iexact F9
    isplitl [T11]; · iexact T11
    isplitl [F11]; · iexact F11
    iexact HO
  iintro ⟨T7, L7, T9, T11, HO⟩
  try dsimp only
  rw [wp_bind]
  iapply (part11_spec a K _ _ _) $$ [T14 T16 F16 HO]
  · isplitr; · iexact HK
    isplitl [T14]; · iexact T14
    isplitl [T16]; · iexact T16
    isplitl [F16]; · iexact F16
    iexact HO
  iintro ⟨T14, S14, L14, S18, T16, HO⟩
  try dsimp only
  rw [wp_bind]
  iapply (part12_spec a K _ _) $$ [T18 F18 S18 T1 HO]
  · isplitr; · iexact HK
    isplitl [T18]; · iexact T18
    isplitl [F18]; · iexact F18
    isplitl [S18]; · iexact S18
    isplitl [T1]; · iexact T1
    iexact HO
  iintro ⟨T18, T1, S1, L1, S5, HO⟩
  try dsimp only
  rw [wp_bind]
  iapply (part13_spec a K _ _) $$ [T5 F5 S5 T8 HO]
  · isplitr; · iexact HK
    isplitl [T5]; · iexact T5
    isplitl [F5]; · iexact F5
    isplitl [S5]; · iexact S5
    isplitl [T8]; · iexact T8
    iexact HO
  iintro ⟨T5, T8, S8, L8, S12, HO⟩
  try dsimp only
  rw [wp_bind]
  iapply (part14_spec a K _ _) $$ [T12 F12 S12 T15 HO]
  · isplitr; · iexact HK
    isplitl [T12]; · iexact T12
    isplitl [F12]; · iexact F12
    isplitl [S12]; · iexact S12
    isplitl [T15]; · iexact T15
    iexact HO
  iintro ⟨T12, T15, S15, L15, S19, HO⟩
  try dsimp only
  rw [wp_bind]
  iapply (part15_spec a K _ _) $$ [T19 F19 S19 T2 HO]
  · isplitr; · iexact HK
    isplitl [T19]; · iexact T19
    isplitl [F19]; · iexact F19
    isplitl [S19]; · iexact S19
    isplitl [T2]; · iexact T2
    iexact HO
  iintro ⟨T19, T2, S2, L2, S6, HO⟩
  try dsimp only
  rw [wp_bind]
  iapply (part16_spec a K _ _) $$ [T6 F6 S6 T9 HO]
  · isplitr; · iexact HK
    isplitl [T6]; · iexact T6
    isplitl [F6]; · iexact F6
    isplitl [S6]; · iexact S6
    isplitl [T9]; · iexact T9
    iexact HO
  iintro ⟨T6, T9, S9, L9, S13, HO⟩
  try dsimp only
  rw [wp_bind]
  iapply (part17_spec a K _ _) $$ [T13 F13 S13 T16 HO]
  · isplitr; · iexact HK
    isplitl [T13]; · iexact T13
    isplitl [F13]; · iexact F13
    isplitl [S13]; · iexact S13
    isplitl [T16]; · iexact T16
    iexact HO
  iintro ⟨T13, T16, S16, L16, S20, HO⟩
  try dsimp only
  rw [wp_bind]
  iapply (part18_spec a K _) $$ [T20 F20 S20 T3 HO]
  · isplitr; · iexact HK
    isplitl [T20]; · iexact T20
    isplitl [F20]; · iexact F20
    isplitl [S20]; · iexact S20
    isplitl [T3]; · iexact T3
    iexact HO
  iintro ⟨T20, T3, S3, U3, L3, HO⟩
  try dsimp only
  rw [wp_bind]
  iapply (part19_spec a K _ _) $$ [T10 T17 L0 L15 HO]
  · isplitr; · iexact HK
    isplitl [T10]; · iexact T10
    isplitl [T17]; · iexact T17
    isplitl [L0]; · iexact L0
    isplitl [L15]; · iexact L15
    iexact HO
  iintro ⟨T10, S10, U10, L10, T17, S17, U17, L17, L0, L15, HO⟩
  try dsimp only
  rw [wp_bind]
  iapply (part20_spec a)
  try dsimp only
  rw [wp_bind]
  iapply (part21_spec a) $$ [L1 L7 L17]
  · isplitl [L1]; · iexact L1
    isplitl [L7]; · iexact L7
    iexact L17
  iintro ⟨L1, L7, L17⟩
  try dsimp only
  rw [wp_bind]
  iapply (part22_spec a)
  try dsimp only
  rw [wp_bind]
  iapply (part23_spec a) $$ [L3 L8 L14]
  · isplitl [L3]; · iexact L3
    isplitl [L8]; · iexact L8
    iexact L14
  iintro ⟨L3, L8, L14⟩
  try dsimp only
  rw [wp_bind]
  iapply (part24_spec a)
  try dsimp only
  rw [wp_bind]
  iapply (part25_spec a K _ _) $$ [T4 T11 HO]
  · isplitr; · iexact HK
    isplitl [T4]; · iexact T4
    isplitl [T11]; · iexact T11
    iexact HO
  iintro ⟨T4, S4, U4, L4, T11, S11, HO⟩
  try dsimp only
  rw [wp_bind]
  iapply (part26_spec a K _) $$ [T11 T18 HO]
  · isplitr; · iexact HK
    isplitl [T11]; · iexact T11
    isplitl [T18]; · iexact T18
    iexact HO
  iintro ⟨T11, U11, L11, T18, S18, U18, L18, HO⟩
  try dsimp only
  rw [wp_bind]
  iapply (part27_spec a K _ _) $$ [T5 T12 HO]
  · isplitr; · iexact HK
    isplitl [T5]; · iexact T5
    isplitl [T12]; · iexact T12
    iexact HO
  iintro ⟨T5, S5, U5, L5, T12, S12, HO⟩
  try dsimp only
  rw [wp_bind]
  iapply (part28_spec a K _) $$ [T12 T19 L2 L11 HO]
  · isplitr; · iexact HK
    isplitl [T12]; · iexact T12
    isplitl [T19]; · iexact T19
    isplitl [L2]; · iexact L2
    isplitl [L11]; · iexact L11
    iexact HO
  iintro ⟨T12, U12, L12, T19, S19, U19, L19, L2, L11, HO⟩
  try dsimp only
  rw [wp_bind]
  iapply (part29_spec a)
  try dsimp only
  rw [wp_bind]
  iapply (part30_spec a) $$ [L4 L12 L16]
  · isplitl [L4]; · iexact L4
    isplitl [L12]; · iexact L12
    iexact L16
  iintro ⟨L4, L12, L16⟩
  try dsimp only
  rw [wp_bind]
  iapply (part31_spec a)
  try dsimp only
  rw [wp_bind]
  iapply (part32_spec a) $$ [L5 L9 L18]
  · isplitl [L5]; · iexact L5
    isplitl [L9]; · iexact L9
    iexact L18
  iintro ⟨L5, L9, L18⟩
  try dsimp only
  rw [wp_bind]
  iapply (part33_spec a)
  try dsimp only
  rw [wp_bind]
  iapply (part34_spec a K _ _) $$ [T6 T13 HO]
  · isplitr; · iexact HK
    isplitl [T6]; · iexact T6
    isplitl [T13]; · iexact T13
    iexact HO
  iintro ⟨T6, S6, U6, L6, T13, S13, HO⟩
  try dsimp only
  rw [wp_bind]
  iapply (part35_spec a K _) $$ [T13 T20 L6 HO]
  · isplitr; · iexact HK
    isplitl [T13]; · iexact T13
    isplitl [T20]; · iexact T20
    isplitl [L6]; · iexact L6
    iexact HO
  iintro ⟨T13, U13, L13, T20, S20, U20, L20, L6, HO⟩
  try dsimp only
  rw [wp_bind]
  iapply (part36_spec a)
  try dsimp only
  simp only [Prog.lift, Prog.bind_op, Prog.bind_ret, Prog.pure_eq_ret, wp_ret]
  imodintro
  unfold oPts
  iapply (wp_load 𝒱₀ (a.c : Thread nD τ) none Set.univ (m := oM) (Finset.subset_univ _)) $$ Ho; iintro Ho
  iapply (wp_store 𝒱₀ (a.c : Thread nD τ) none Set.univ (m := oM) (r := Rect.unit (s := S1024x512) ![0, 0] S1024x512.size inb_S1024x512_S1024x512_0_0) (Mk := Finset.univ) (Finset.subset_univ _)) $$ Ho; iintro Ho
  rw [write_out]
  simp only [wp_ret]
  imodintro
  iapply Hk
  unfold bodyOut
  rw [bigSep_transfers]
  isplitl [HO]; · iexact HO
  isplitl [Hz]; · iexact Hz
  isplitl [T0 T1 T2 T3 T4 T5 T6 T7 T8 T9 T10 T11 T12 T13 T14 T15 T16 T17 T18 T19 T20]
  · isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    iexact T20
  isplitl [L0 S2 S4 L1 S5 L2 S6 L3 U3 L4 U4 L5 U5 L6 U6 L7 S9 S11 L8 S12 L9 S13 L10 U10 L11 U11 L12 U12 L13 U13 L14 S16 S18 L15 S19 L16 S20 L17 U17 L18 U18 L19 U19 L20 U20 Hfree]
  · iapply (comm_back a)
    isplitl [L0]; · iexact L0
    isplitl [S2]; · iexact S2
    isplitl [S4]; · iexact S4
    isplitl [L1]; · iexact L1
    isplitl [S5]; · iexact S5
    isplitl [L2]; · iexact L2
    isplitl [S6]; · iexact S6
    isplitl [L3]; · iexact L3
    isplitl [U3]; · iexact U3
    isplitl [L4]; · iexact L4
    isplitl [U4]; · iexact U4
    isplitl [L5]; · iexact L5
    isplitl [U5]; · iexact U5
    isplitl [L6]; · iexact L6
    isplitl [U6]; · iexact U6
    isplitl [L7]; · iexact L7
    isplitl [S9]; · iexact S9
    isplitl [S11]; · iexact S11
    isplitl [L8]; · iexact L8
    isplitl [S12]; · iexact S12
    isplitl [L9]; · iexact L9
    isplitl [S13]; · iexact S13
    isplitl [L10]; · iexact L10
    isplitl [U10]; · iexact U10
    isplitl [L11]; · iexact L11
    isplitl [U11]; · iexact U11
    isplitl [L12]; · iexact L12
    isplitl [U12]; · iexact U12
    isplitl [L13]; · iexact L13
    isplitl [U13]; · iexact U13
    isplitl [L14]; · iexact L14
    isplitl [S16]; · iexact S16
    isplitl [S18]; · iexact S18
    isplitl [L15]; · iexact L15
    isplitl [S19]; · iexact S19
    isplitl [L16]; · iexact L16
    isplitl [S20]; · iexact S20
    isplitl [L17]; · iexact L17
    isplitl [U17]; · iexact U17
    isplitl [L18]; · iexact L18
    isplitl [U18]; · iexact U18
    isplitl [L19]; · iexact L19
    isplitl [U19]; · iexact U19
    isplitl [L20]; · iexact L20
    isplitl [U20]; · iexact U20
    iexact Hfree
  isplitl [O0 S0 S1 S3 O1 S7 S8 S10 O2 S14 S15 S17]
  · iapply (own_whole a)
    isplitl [O0]; · iexact O0
    isplitl [S0]; · iexact S0
    isplitl [S1]; · iexact S1
    isplitl [S3]; · iexact S3
    isplitl [O1]; · iexact O1
    isplitl [S7]; · iexact S7
    isplitl [S8]; · iexact S8
    isplitl [S10]; · iexact S10
    isplitl [O2]; · iexact O2
    isplitl [S14]; · iexact S14
    isplitl [S15]; · iexact S15
    iexact S17
  isplitl [He]; · iexact He
  isplitl [HX]; · iexact HX
  isplitl [HR]; · iexact HR
  isplitl [HI]; · iexact HI
  unfold oPts
  iexact Ho

end Cert.KernelIdeal.Exchange

end
-- ==== Proof.KernelIdeal.Device.lean ====
/-
One device of the launch: what its body is run on, what it starts from and ends with, and its body's obligation.
-/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ) (ρ : Dev nD → PrngReg)

/-! ## What each body is run on -/

/-- The launch state: any memory, all counters zero. -/
def s₀ : MemSt nD τ sig (Elt F) := ⟨m, fun _ => 0, ρ⟩

/-- The input blocks as the body finds them. -/
def xIn (c : Dev nD) : (cc0_stg0_0 : Ref sig .tc).ty.Contents (Elt F) := (win0_0.blk (0 : Fin 1)).view.read (Elt F) ((s₀ m ρ).mem ((c : Thread nD τ).loc main_arg0))
def rIn (c : Dev nD) : (cc0_stg1_0 : Ref sig .tc).ty.Contents (Elt F) := (win0_1.blk (0 : Fin 1)).view.read (Elt F) ((s₀ m ρ).mem ((c : Thread nD τ).loc main_arg1))
def iIn (c : Dev nD) : (cc0_stg2_0 : Ref sig .tc).ty.Contents (Elt F) := (win0_2.blk (0 : Fin 1)).view.read (Elt F) ((s₀ m ρ).mem ((c : Thread nD τ).loc main_arg2))
def eIn (c : Dev nD) : (cc0_stg3_0 : Ref sig .tc).ty.Contents (Elt F) := (win0_3.blk (0 : Fin 1)).view.read (Elt F) ((s₀ m ρ).mem ((c : Thread nD τ).loc main_arg3))

/-- Everyone's rounded experts. -/
def wAll (c : Dev nD) : S4x256x512.Idx → Elt F .bf16 := k0_pay2 (eIn m ρ c)

/-- What device `c`'s body computes from. -/
def pt (c : Dev nD) : Point F := ⟨c, xIn m ρ c, rIn m ρ c, iIn m ρ c, wAll m ρ⟩

/-! ## What a device starts from and ends with -/

/-- The tokens a device pays with. -/
def payToks (c : Dev nD) : sProp 𝕄 :=
  iprop((bigSep Finset.univ fun k : Fin 3 => dutyTok EX (barCell (across c k)) 0 k)
    ∗ (bigSep Finset.univ fun s : Fin 21 => dutyTok EX (sendCell c s) 0 0)
    ∗ bigSep Finset.univ fun s : Fin 21 => dutyTok EX (recvCell (across c (link s)) s) 0 0)

/-- Its places in its own cells. -/
def places (c : Dev nD) : sProp 𝕄 := bigSep Finset.univ fun k : Which => atPos EX (cellAt (c, k)) 0 ∅ 0

def start (c : Dev nD) : sProp 𝕄 :=
  iprop((∃ K, known (wAll m ρ) K) ∗ payToks (F := F) c ∗ places (F := F) c ∗ cred (tallyAt (barCell c) () 3)
    ∗ bigSep Finset.univ fun s : Fin 21 => cred (tallyAt (recvCell c s) () (bytes s)))

/-- The two scratch buffers, at whatever contents. -/
def scratch (c : Dev nD) : sProp 𝕄 :=
  iprop((∃ f : (cc0_scratch0 : Ref sig .tc).ty.Contents (Elt F), commM.view.loc (c : Thread nD τ) ↦{fullShare} f)
    ∗ ∃ f : (cc0_scratch1 : Ref sig .tc).ty.Contents (Elt F), ownM.view.loc (c : Thread nD τ) ↦{fullShare} f)

def Φ₀ (c : Dev nD) : sProp 𝕄 := iprop(start m ρ c ∗ scratch (F := F) c)
def Φ₁ (c : Dev nD) : sProp 𝕄 := iprop(semVal (barCell c) 0 ∗ (bigSep Finset.univ fun s => landed (F := F) c s) ∗ scratch (F := F) c)

theorem cfg0_N : cfg0.N = 1 := N_0
def t₀ : Fin cfg0.N := t0_0
theorem fin_N (t : Fin cfg0.N) : t = t₀ := fin_N0 t

def dats (_ : Fin 1) (c : Dev nD) : Dat τ (Elt F) Unit ℕ UA ℕ cfg0 c where
  A w := (s₀ m ρ).mem ((cfg0.win w).arr.view.loc (c : Thread nD τ))
  after w _ := match w with
    | ⟨0, _⟩ => xIn m ρ c
    | ⟨1, _⟩ => rIn m ρ c
    | ⟨2, _⟩ => iIn m ρ c
    | ⟨3, _⟩ => eIn m ρ c
    | ⟨4, _⟩ => (pt m ρ c).out
  Φ t := match t with
    | ⟨0, _⟩ => Φ₀ m ρ c
    | ⟨_ + 1, _⟩ => Φ₁ (F := F) c
  q _ := fullShare
  owed t := match t with
    | ⟨0, _⟩ => owed₀ c
    | ⟨_ + 1, _⟩ => 0

theorem owns_whole_eq (c : Dev nD) (b : Ref sig .tc) (X : b.ty.Contents (Elt F)) :
    (owns (Ix := Unit) (Name := ℕ) (U := UA) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) c ∗ (dats m ρ 0 c).owesAt () t₀.succ
    ∗ stg c cc0_stg0_0 (xIn m ρ c) ∗ stg c cc0_stg1_0 (rIn m ρ c) ∗ stg c cc0_stg2_0 (iIn m ρ c) ∗ stg c cc0_stg3_0 (eIn m ρ c) ∗ stg c cc0_stg4_0 (pt m ρ c).out)

theorem bigSep_links (Φ : Fin 3 → sProp 𝕄) : bigSep Finset.univ Φ = iprop(Φ 0 ∗ Φ 1 ∗ Φ 2) := bigSep_univ_eq_bigSepL [0, 1, 2] (by decide) (by decide) Φ

/-- A family over a device's cells, by kind. -/
theorem bigSep_which (Φ : Which → sProp 𝕄) :
    bigSep Finset.univ Φ = iprop(Φ bar ∗ (bigSep Finset.univ fun s => Φ (snd s)) ∗ bigSep Finset.univ fun s => Φ (rcv s)) := by
  rw [show bigSep Finset.univ Φ = _ from bigSep_univ_sum Φ, show bigSep Finset.univ (fun b => Φ (.inr b)) = _ from bigSep_univ_sum fun b => Φ (.inr b)]
  rw [bigSep_univ_eq_bigSepL [()] (by decide) (by decide)]
  rfl

/-- Tokens, places and credits make every transfer idle. -/
theorem all_idle (c : Dev nD) :
    iprop((bigSep Finset.univ fun s : Fin 21 => dutyTok EX (sendCell c s) 0 0)
        ∗ (bigSep Finset.univ fun s : Fin 21 => dutyTok EX (recvCell (across c (link s)) s) 0 0)
        ∗ (bigSep Finset.univ fun s : Fin 21 => atPos EX (sendCell c s) 0 ∅ 0)
        ∗ (bigSep Finset.univ fun s : Fin 21 => atPos EX (recvCell c s) 0 ∅ 0)
        ∗ bigSep Finset.univ fun s : Fin 21 => cred (tallyAt (recvCell c s) () (bytes s)))
      ⊢ (bigSep Finset.univ fun s => idle (F := F) c s : sProp 𝕄) := by
  unfold idle
  rw [bigSep_sep', bigSep_sep', bigSep_sep', bigSep_sep']

set_option maxRecDepth 100000 in
/-- The body of device `c`. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ (on (cc0_body (F := F))) Kt := by
  unfold bodyPre Φ₀ start scratch payToks places
  rw [bigSep_links, bigSep_which]
  iintro ⟨⟨⟨⟨⟨%K, #HK⟩, ⟨⟨HtA, HtB, HtC⟩, HtS, HtR⟩, ⟨HaB, HaS, HaR⟩, HcB, HcR⟩, Hcomm, Hown⟩,
    Ho, ⟨%d0, %g0, %hg0, Hx⟩, ⟨%d1, %g1, %hg1, Hr⟩, ⟨%d2, %g2, %hg2, Hi⟩, ⟨%d3, %g3, %hg3, He⟩, ⟨%d4, %g4, %hg4, Hout⟩⟩, Hk⟩
  have hx : g0 = xIn m ρ c := by rw [hg0]; unfold Dat.before; rw [if_pos (fetch0_0 t₀)]; rfl
  have hr : g1 = rIn m ρ c := by rw [hg1]; unfold Dat.before; rw [if_pos (fetch0_1 t₀)]; rfl
  have hi : g2 = iIn m ρ c := by rw [hg2]; unfold Dat.before; rw [if_pos (fetch0_2 t₀)]; rfl
  have he : g3 = eIn m ρ c := by rw [hg3]; unfold Dat.before; rw [if_pos (fetch0_3 t₀)]; rfl
  subst hx hr hi he
  unfold Dat.owesAt Pipeline.owesWithin
  icases Ho with ⟨%W, %hW, HO⟩
  rw [show (dats m ρ 0 c).owed t₀.castSucc = owed₀ c from rfl]
  have hb := exchange_body (pt m ρ c) K (eIn m ρ c) rfl Kt
  iapply hb
  isplitr [Hk]
  · unfold bodyIn owing ePts xPts rPts iPts oPts
    isplitr; · iexact HK
    isplitl [HO]; · iexists W; iexact HO
    isplitl [HtA]; · iexact HtA
    isplitl [HtB]; · iexact HtB
    isplitl [HtC]; · iexact HtC
    isplitl [HaB]; · iexact HaB
    isplitl [HcB]; · iexact HcB
    isplitl [Hcomm]; · iexact Hcomm
    isplitl [Hown]; · iexact Hown
    isplitl [He]; · iexact He
    isplitl [Hx]; · iexact Hx
    isplitl [Hr]; · iexact Hr
    isplitl [Hi]; · iexact Hi
    isplitl [Hout]; · iexists g4; iexact Hout
    iapply (all_idle (F := F) c)
    isplitl [HtS]; · iexact HtS
    isplitl [HtR]; · iexact HtR
    isplitl [HaS]; · iexact HaS
    isplitl [HaR]; · iexact HaR
    iexact HcR
  · unfold bodyOut owing ePts xPts rPts iPts oPts
    iintro ⟨⟨%W', HO⟩, Hz, Hl, Hcomm, Hown, He, Hx, Hr, Hi, Hout⟩
    iapply Hk
    unfold bodyPost Φ₁ scratch Dat.owesAt Pipeline.owesWithin
    rw [show (dats m ρ 0 c).owed t₀.succ = 0 from rfl]
    isplitl [Hz Hl Hcomm Hown]
    · isplitl [Hz]; · iexact Hz
      isplitl [Hl]; · iexact Hl
      isplitl [Hcomm]; · iexact Hcomm
      iexact Hown
    isplitl [HO]
    · iexists W'
      isplitr; · ipureintro; exact fun _ _ => Or.inl trivial
      iexact HO
    isplitl [Hx]
    · iexists _; isplitr; · (ipureintro; rfl)
      iexact Hx
    isplitl [Hr]
    · iexists _; isplitr; · (ipureintro; rfl)
      iexact Hr
    isplitl [Hi]
    · iexists _; isplitr; · (ipureintro; rfl)
      iexact Hi
    isplitl [He]
    · iexists _; isplitr; · (ipureintro; rfl)
      iexact He
    iexists _; isplitr; · (ipureintro; rfl)
    iexact Hout

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

set_option maxRecDepth 100000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ (on (cc0_body (F := F))) (fun _ => bodyPost m ρ c)
  iintro H
  iapply (sound_body m ρ c fun _ => bodyPost m ρ c)
  isplitl [H]; · iexact H
  iintro H; iexact H

end Cert.KernelIdeal.Exchange

end
-- ==== Proof.KernelIdeal.Dealing.lean ====
/-
Setting up the cells: every cell's invariant is made once for all devices, and every token goes to the device that pays
with it.
-/
module

public import proofs.«01_k».proof.Proof.KernelIdeal.Device

@[expose] public section

noncomputable section

namespace Cert.KernelIdeal.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (w : Dev nD → S4x256x512.Idx → Elt F .bf16)

/-! ## The cells and tokens, listed -/

theorem sendS_inj {s t : Fin 21} (h : sendS s = sendS t) : s = t := by
  have := congrArg sendOf h; rw [sendOf_sendS, sendOf_sendS] at this; exact Option.some.inj this
theorem recvS_inj {s t : Fin 21} (h : recvS s = recvS t) : s = t := by
  have := congrArg recvOf h; rw [recvOf_recvS, recvOf_recvS] at this; exact Option.some.inj this
theorem sendS_ne_recvS {s t : Fin 21} (h : sendS s = recvS t) : False := by
  have := congrArg sendOf h; rw [sendOf_sendS, sendOf_recvS] at this; cases this

theorem semOf_injective : Function.Injective (semOf : Which → SemLoc sig) := by
  rintro (⟨⟩ | s | s) (⟨⟩ | t | t) h
  · rfl
  · cases h
  · cases h
  · cases h
  · rw [sendS_inj (SemLoc.dma.inj h)]
  · exact (sendS_ne_recvS (SemLoc.dma.inj h)).elim
  · cases h
  · exact (sendS_ne_recvS (SemLoc.dma.inj h).symm).elim
  · rw [recvS_inj (SemLoc.dma.inj h)]

theorem cellAt_injective : Function.Injective (cellAt : Dev nD × Which → GSem nD τ sig) := by
  rintro ⟨c, k⟩ ⟨d, l⟩ h
  have hc : c = d := congrArg (fun g : GSem nD τ sig => g.1.1) h
  have hk : k = l := semOf_injective (congrArg Prod.snd h)
  rw [hc, hk]

/-- All the exchange's cells. -/
def allCells : Finset (GSem nD τ sig) := Finset.univ.map ⟨cellAt, cellAt_injective⟩

/-- A device's own cells' tokens: three of its barrier cell, one of every other. -/
abbrev Tok : Type := Fin 3 ⊕ (Fin 21 ⊕ Fin 21)
def tokOf (x : Dev nD × Tok) : GSem nD τ sig × ℕ × Fin 3 := match x.2 with
  | .inl k => (barCell x.1, 0, k)
  | .inr (.inl s) => (sendCell x.1 s, 0, 0)
  | .inr (.inr s) => (recvCell x.1 s, 0, 0)

theorem tokOf_injective : Function.Injective tokOf := by
  rintro ⟨c, k⟩ ⟨d, l⟩ h
  have hc : c = d := by
    have := congrArg (fun g : GSem nD τ sig × ℕ × Fin 3 => g.1.1.1) h
    rcases k with k | k | k <;> rcases l with l | l | l <;> exact this
  subst hc
  have hs := congrArg (fun g : GSem nD τ sig × ℕ × Fin 3 => g.1.2) h
  have hk := congrArg (fun g : GSem nD τ sig × ℕ × Fin 3 => g.2.2) h
  rcases k with k | k | k <;> rcases l with l | l | l
  · rw [show k = l from hk]
  · cases (hs : SemLoc.reg barS = SemLoc.dma (sendS l))
  · cases (hs : SemLoc.reg barS = SemLoc.dma (recvS l))
  · cases (hs : SemLoc.dma (sendS k) = SemLoc.reg barS)
  · rw [sendS_inj (SemLoc.dma.inj hs)]
  · exact (sendS_ne_recvS (SemLoc.dma.inj hs)).elim
  · cases (hs : SemLoc.dma (recvS k) = SemLoc.reg barS)
  · exact (sendS_ne_recvS (SemLoc.dma.inj hs).symm).elim
  · rw [recvS_inj (SemLoc.dma.inj hs)]

def allToks : Finset (GSem nD τ sig × ℕ × Fin 3) := Finset.univ.map ⟨tokOf, tokOf_injective⟩

/-- What the launch starts the ghost state with. -/
def u₀ : UA := (initOf (Pipeline.cells cfgs cellOf_inj) (Pipeline.launchToks cfgs cellOf_inj), initOf allCells allToks)

/-- The tokens of device `c`'s own cells. -/
def toks (c : Dev nD) : sProp 𝕄 :=
  iprop((bigSep Finset.univ fun k : Fin 3 => dutyTok EX (barCell c) 0 k)
    ∗ (bigSep Finset.univ fun s : Fin 21 => dutyTok EX (sendCell c s) 0 0)
    ∗ bigSep Finset.univ fun s : Fin 21 => dutyTok EX (recvCell c s) 0 0)

/-- What device `c` is dealt first, -/
def G (c : Dev nD) : sProp 𝕄 :=
  iprop((bigSep Finset.univ fun k : Which => roundState EX (sched w) (cellAt (c, k)) 0)
    ∗ (bigSep Finset.univ fun k : Which => reached EX (cellAt (c, k)) 0) ∗ places (F := F) c ∗ toks (F := F) c)

/-- every cell's invariant and its being at its round, -/
def cellsKnown (K : Dev nD × Which → ℕ) : sProp 𝕄 :=
  iprop((bigSep Finset.univ fun x : Dev nD × Which => cellInv EX (sched w) (K x) (cellAt x))
    ∗ bigSep Finset.univ fun x : Dev nD × Which => reached EX (cellAt x) 0)

instance cellsKnown_persistent (K : Dev nD × Which → ℕ) : BI.Persistent (cellsKnown w K) := by unfold cellsKnown; infer_instance

/-- and what it has once every cell is set up. -/
def G' (c : Dev nD) : sProp 𝕄 := iprop((∃ K, cellsKnown w K) ∗ payToks (F := F) c ∗ places (F := F) c)

/-- A family over all cells is one over devices of one over a device's cells. -/
theorem over_cells (Φ : GSem nD τ sig → sProp 𝕄) :
    bigSep allCells Φ = bigSep Finset.univ fun c : Dev nD => bigSep Finset.univ fun k : Which => Φ (cellAt (c, k)) := by
  unfold allCells; rw [bigSep_map, bigSep_univ_prod]; rfl

theorem over_toks : bigSep allToks (fun x => (dutyTok EX x.1 x.2.1 x.2.2 : sProp 𝕄)) = bigSep Finset.univ fun c : Dev nD => toks (F := F) c := by
  unfold allToks
  rw [bigSep_map, bigSep_univ_prod]
  refine bigSep_congr fun c _ => ?_
  rw [show (bigSep Finset.univ fun b : Tok => _ : sProp 𝕄) = _ from bigSep_univ_sum _,
    show (bigSep Finset.univ fun b : Fin 21 ⊕ Fin 21 => _ : sProp 𝕄) = _ from bigSep_univ_sum _]
  rfl

theorem fund_cells : BI.own (EX (initOf allCells allToks)) ⊢ (|==> bigSep Finset.univ (G w) : sProp 𝕄) := by
  have h1 := over_cells (F := F) fun g => roundState EX (sched w) g 0
  have h2 := over_cells (F := F) fun g => reached EX g 0
  have h3 := over_cells (F := F) fun g => atPos EX g 0 ∅ 0
  iintro H
  imod (Rounds.fund EX (sched w) allCells allToks) $$ H with ⟨Hs, Hr, Hp, Ht⟩
  imodintro
  ihave Hs := (Entails.of_eq h1) $$ Hs
  ihave Hr := (Entails.of_eq h2) $$ Hr
  ihave Hp := (Entails.of_eq h3) $$ Hp
  ihave Ht := (Entails.of_eq (over_toks (F := F))) $$ Ht
  unfold G places
  simp only [bigSep_sep']
  isplitl [Hs]; · iexact Hs
  isplitl [Hr]; · iexact Hr
  isplitl [Hp]; · iexact Hp
  iexact Ht

/-! ## The semaphores at zero -/

/-- The kernel's own semaphores: all send and receive semaphores. -/
def ownSem (k : Fin 21 ⊕ Fin 21) : SemLoc sig := semOf (.inr k)

theorem ownSemFacts : Pipeline.OwnSemFacts cfg0.spec ownSem := by decide

theorem unscoped_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier's, all at zero, are a device's cells at zero. -/
theorem zero_cells (c : Dev nD) :
    iprop(Pipeline.ownSems0 (Ix := Unit) (Name := ℕ) (U := UA) (Lvl := ℕ) (Val := Elt F) (τ := τ) ownSem c ∗ unscopedSems0 c)
      ⊢ (bigSep Finset.univ fun k : Which => semVal (cellAt (c, k)) 0 : sProp 𝕄) := by
  rw [unscoped_eq, show (bigSep Finset.univ fun k : Which => semVal (cellAt (c, k)) 0 : sProp 𝕄) = _ from bigSep_univ_sum _, bigSep_univ_eq_bigSepL [()] (by decide) (by decide)]
  unfold Pipeline.ownSems0
  show _ ⊢ iprop(semVal (barCell c) 0 ∗ bigSep Finset.univ fun k => semVal ((c : Thread nD τ), ownSem k) 0)
  iintro ⟨Ho, Hb⟩
  isplitl [Hb]; · iexact Hb
  iexact Ho

/-- One device's cells are put under their invariants. -/
theorem make_cells (c : Dev nD) :
    iprop(Pipeline.ownSems0 (Ix := Unit) (Name := ℕ) (U := UA) (Lvl := ℕ) (Val := Elt F) (τ := τ) ownSem c ∗ unscopedSems0 c ∗ G w c)
      ⊢ |={Set.univ}=> iprop((bigSep Finset.univ fun k : Which => iprop(∃ κ : ℕ, cellInv EX (sched w) κ (cellAt (c, k))))
          ∗ (bigSep Finset.univ fun k : Which => reached EX (cellAt (c, k)) 0) ∗ places (F := F) c ∗ toks (F := F) c) := by
  have hz := zero_cells (F := F) c
  have hinv : (bigSep Finset.univ fun k : Which => iprop(semVal (cellAt (c, k)) 0 ∗ roundState EX (sched w) (cellAt (c, k)) 0))
      ⊢ (|={Set.univ}=> bigSep Finset.univ fun k : Which => iprop(∃ κ : ℕ, cellInv EX (sched w) κ (cellAt (c, k))) : sProp 𝕄) :=
    (bigSep_mono fun k _ => (Rounds.body_intro EX (sched w) (cellAt (c, k))).trans inv_alloc).trans (bigSep_fupd _ _)
  unfold G
  iintro ⟨Hown, Hun, Hs, Hr, Hp, Ht⟩
  ihave Hv := hz $$ [Hown Hun]
  · isplitl [Hown] <;> iassumption
  imod hinv $$ [Hv Hs] with Hi
  · rw [bigSep_sep']
    isplitl [Hv] <;> iassumption
  imodintro
  isplitl [Hi]; · iexact Hi
  isplitl [Hr]; · iexact Hr
  isplitl [Hp]; · iexact Hp
  iexact Ht

/-! ## Dealing the tokens -/

/-- Crossing the link a key names, as a permutation of devices with a key. -/
def crossing {K : Type} (l : K → Fin 3) : Dev nD × K ≃ Dev nD × K :=
  ⟨fun x => (across x.1 (l x.2), x.2), fun x => (across x.1 (l x.2), x.2), fun x => by dsimp only; rw [across_across], fun x => by dsimp only; rw [across_across]⟩

/-- A family over devices and `K` may be read with each device replaced by the one across a link that `K` names. -/
theorem deal {K : Type} [Fintype K] [DecidableEq K] (l : K → Fin 3) (Φ : Dev nD → K → sProp 𝕄) :
    (bigSep Finset.univ fun c => bigSep Finset.univ fun k => Φ c k) = bigSep Finset.univ fun c => bigSep Finset.univ fun k => Φ (across c (l k)) k := by
  rw [← bigSep_univ_prod fun x : Dev nD × K => Φ x.1 x.2, ← bigSep_univ_prod fun x : Dev nD × K => Φ (across x.1 (l x.2)) x.2]
  exact bigSep_univ_equiv (crossing l) fun x => Φ x.1 x.2

theorem deal_toks : (bigSep Finset.univ fun c : Dev nD => toks (F := F) c) = bigSep Finset.univ fun c : Dev nD => payToks (F := F) c := by
  unfold toks payToks
  rw [bigSep_sep', bigSep_sep', bigSep_sep', bigSep_sep', deal id fun c k => dutyTok EX (barCell c) 0 k, deal link fun c s => dutyTok EX (recvCell c s) 0 0]
  rfl

/-- What everyone knows is given to everyone. -/
theorem give_all {R : sProp 𝕄} [BI.Persistent R] (Φ : Dev nD → sProp 𝕄) :
    iprop(R ∗ bigSep Finset.univ Φ) ⊢ bigSep Finset.univ fun c => iprop(R ∗ Φ c) := by
  rw [bigSep_sep']
  exact sep_mono_left (BI.bigSep_of_persistent Finset.univ R)

theorem share_out :
    (bigSep Finset.univ fun c : Dev nD => iprop((bigSep Finset.univ fun k : Which => iprop(∃ κ : ℕ, cellInv EX (sched w) κ (cellAt (c, k))))
          ∗ (bigSep Finset.univ fun k : Which => reached EX (cellAt (c, k)) 0) ∗ places (F := F) c ∗ toks (F := F) c) : sProp 𝕄)
      ⊢ bigSep Finset.univ (G' w) := by
  have hone : ∀ K c, iprop(cellsKnown w K ∗ payToks (F := F) c ∗ places (F := F) c) ⊢ G' w c := fun K c => by
    unfold G'
    iintro ⟨HK, Ht, Hp⟩
    isplitl [HK]; · iexists K; iexact HK
    isplitl [Ht] <;> iassumption
  have hG : ∀ K, iprop(cellsKnown w K ∗ bigSep Finset.univ fun c => iprop(payToks (F := F) c ∗ places (F := F) c)) ⊢ bigSep Finset.univ (G' w) := fun K =>
    (give_all _).trans (bigSep_mono fun c _ => hone K c)
  rw [bigSep_sep', bigSep_sep', bigSep_sep', deal_toks,
    ← bigSep_univ_prod (fun x : Dev nD × Which => iprop(∃ κ : ℕ, cellInv EX (sched w) κ (cellAt x))),
    ← bigSep_univ_prod (fun x : Dev nD × Which => (reached EX (cellAt x) 0 : sProp 𝕄))]
  iintro ⟨HI, HR, Hp, Ht⟩
  ihave HK := (BI.bigSep_exists_pi Finset.univ (fun (x : Dev nD × Which) (κ : ℕ) => (cellInv EX (sched w) κ (cellAt x) : sProp 𝕄))) $$ HI
  icases HK with ⟨%K, HI⟩
  iapply (hG K)
  isplitl [HI HR]
  · unfold cellsKnown
    isplitl [HI] <;> iassumption
  · rw [bigSep_sep']
    isplitl [Ht] <;> iassumption

theorem set_up :
    (bigSep Finset.univ fun c => iprop(Pipeline.ownSems0 (Ix := Unit) (Name := ℕ) (U := UA) (Lvl := ℕ) (Val := Elt F) (τ := τ) ownSem c ∗ unscopedSems0 c ∗ G w c) : sProp 𝕄)
      ⊢ |={Set.univ}=> bigSep Finset.univ (G' w) :=
  ((bigSep_mono fun c _ => make_cells w c).trans (bigSep_fupd _ _)).trans (BI.fupd_mono (share_out w))

end Cert.KernelIdeal.Exchange

end
-- ==== Proof.KernelIdeal.Launch.lean ====
/-
The launch: the credits every device starts with, and the run.
-/
module

public import proofs.«01_k».proof.Proof.KernelIdeal.Dealing
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ) (ρ : Dev nD → PrngReg)

/-! ## The credits -/

theorem bar_eq_iff {a b : Dev nD} : Iff (barCell a = barCell b) (a = b) :=
  ⟨fun h => congrArg (fun g : GSem nD τ sig => g.1.1) h, fun h => h ▸ rfl⟩
theorem recv_eq_iff {a b : Dev nD} {s t : Fin 21} : Iff (recvCell a s = recvCell b t) (a = b ∧ s = t) :=
  ⟨fun h => ⟨congrArg (fun g : GSem nD τ sig => g.1.1) h, recvS_inj (SemLoc.dma.inj (congrArg Prod.snd h))⟩, fun h => by rw [h.1, h.2]⟩
theorem recv_ne_bar {a b : Dev nD} {s : Fin 21} (h : recvCell a s = barCell b) : False := by
  cases (congrArg Prod.snd h : SemLoc.dma (recvS s) = SemLoc.reg barS)

theorem eq_across {c d : Dev nD} {k : Fin 3} : Iff (c = across d k) (d = across c k) :=
  ⟨fun h => by rw [h, across_across], fun h => by rw [h, across_across]⟩

/-- One tally, at a cell across a link. -/
theorem tally_bar (c d : Dev nD) (k : Fin 3) : (tallyAt (barCell (across d k)) () 1 : CellTallies nD τ sig Unit) (barCell c) () = if d = across c k then 1 else 0 := by
  rw [tallyAt_apply]
  exact if_congr ⟨fun h => eq_across.mp (bar_eq_iff.mp h.1), fun h => ⟨bar_eq_iff.mpr (eq_across.mpr h), rfl⟩⟩ rfl rfl
theorem tally_recv (c d : Dev nD) (s t : Fin 21) :
    (tallyAt (recvCell (across d (link t)) t) () (bytes t) : CellTallies nD τ sig Unit) (recvCell c s) () = if s = t ∧ d = across c (link s) then bytes s else 0 := by
  rw [tallyAt_apply]
  by_cases h : s = t
  · subst h
    exact if_congr ⟨fun h => ⟨rfl, eq_across.mp (recv_eq_iff.mp h.1).1⟩, fun h => ⟨recv_eq_iff.mpr ⟨eq_across.mpr h.2, rfl⟩, rfl⟩⟩ rfl rfl
  · rw [if_neg fun h' => h (recv_eq_iff.mp h'.1).2, if_neg fun h' => h h'.1]

theorem owed_bar_nil (c d : Dev nD) (l : List (Fin 21)) : owed d l (barCell c) () = 0 := by
  induction l with
  | nil => rfl
  | cons s l ih =>
    unfold owed
    rw [Pi.add_apply, Finsupp.add_apply, ih, tallyAt_apply, if_neg fun h => recv_ne_bar h.1.symm]

theorem owed_recv_list (c d : Dev nD) (s : Fin 21) (l : List (Fin 21)) (hl : l.Nodup) :
    owed d l (recvCell c s) () = if s ∈ l ∧ d = across c (link s) then bytes s else 0 := by
  induction l with
  | nil => simp [owed]
  | cons t l ih =>
    unfold owed
    rw [Pi.add_apply, Finsupp.add_apply, ih (List.nodup_cons.mp hl).2, tally_recv]
    have ht := (List.nodup_cons.mp hl).1
    by_cases hd : d = across c (link s)
    · by_cases hs : s = t
      · subst hs; simp [hd, ht]
      · simp [hd, hs]
    · simp [hd]

theorem order_nodup : order.Nodup := by decide
theorem mem_order (s : Fin 21) : s ∈ order := by revert s; decide

theorem owed₀_bar (c d : Dev nD) : owed₀ d (barCell c) () = ∑ k : Fin 3, if d = across c k then 1 else 0 := by
  unfold owed₀ owed₁ owed₂
  rw [Pi.add_apply, Finsupp.add_apply, Pi.add_apply, Finsupp.add_apply, Pi.add_apply, Finsupp.add_apply, owed_bar_nil, tally_bar, tally_bar, tally_bar, Fin.sum_univ_three]
  omega
theorem owed₀_recv (c d : Dev nD) (s : Fin 21) : owed₀ d (recvCell c s) () = if d = across c (link s) then bytes s else 0 := by
  unfold owed₀ owed₁ owed₂
  have hz : ∀ k : Fin 3, (tallyAt (barCell (across d k)) () 1 : CellTallies nD τ sig Unit) (recvCell c s) () = 0 := fun k => by
    rw [tallyAt_apply, if_neg fun h => recv_ne_bar h.1]
  rw [Pi.add_apply, Finsupp.add_apply, Pi.add_apply, Finsupp.add_apply, Pi.add_apply, Finsupp.add_apply, owed_recv_list _ _ _ _ order_nodup, hz, hz, hz]
  simp [mem_order]

theorem credit_bar (c : Dev nD) :
    tallyOn (barCell c) (launchCredit (Pipeline.owing owed₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed₀_bar c d, Finset.sum_comm]
  simp only [Finset.sum_ite_eq', Finset.mem_univ, if_true]
  rfl
theorem credit_recv (c : Dev nD) (s : Fin 21) :
    tallyOn (recvCell c s) (launchCredit (Pipeline.owing owed₀) 0 (recvCell c s)) = (tallyAt (recvCell c s) () (bytes s) : CellTallies nD τ sig Unit) := by
  unfold tallyAt
  refine congrArg _ (Finsupp.ext fun u => ?_)
  cases u
  rw [Pipeline.launchCredit_owing, Finsupp.single_eq_same, Finset.sum_congr rfl fun d _ => owed₀_recv c d s]
  simp only [Finset.sum_ite_eq', Finset.mem_univ, if_true]

theorem credits (c : Dev nD) :
    (Pipeline.launchCred owed₀ c : sProp 𝕄)
      ⊢ iprop(cred (tallyAt (barCell c) () 3) ∗ bigSep Finset.univ fun s : Fin 21 => cred (tallyAt (recvCell c s) () (bytes s))) := by
  have hsub : (Pipeline.launchCred owed₀ c : sProp 𝕄)
      ⊢ bigSep Finset.univ fun k : Which => cred (tallyOn (cellAt (c, k)) (launchCredit (Pipeline.owing owed₀) 0 (cellAt (c, k)))) := by
    unfold Pipeline.launchCred
    refine (bigSep_subset (Finset.subset_univ (Finset.univ.image semOf))).trans ?_
    rw [bigSep_image_of_injOn (fun a _ b _ h => semOf_injective h)]
    exact BI.Entails.refl _
  refine hsub.trans ?_
  rw [bigSep_which]
  rw [credit_bar, bigSep_congr fun s _ => congrArg _ (credit_recv c s)]
  iintro ⟨Hb, -, Hr⟩
  isplitl [Hb] <;> iassumption

/-! ## In and out of the region -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (wAll m ρ) c)
      ⊢ |={Set.univ}=> iprop(start m ρ c ∗ emp) := by
  unfold G' start cellsKnown known
  iintro ⟨-, Hl, Hc, -, ⟨⟨%K, HI, HR⟩, Ht, Hp⟩⟩
  ihave Hc := (credits (F := F) c) $$ Hc
  icases Hc with ⟨Hb, Hr⟩
  imodintro
  isplitl
  · isplitl [HI HR Hl]
    · iexists K
      isplitl [HI]; · iexact HI
      isplitl [HR]; · iexact HR
      iexact Hl
    isplitl [Ht]; · iexact Ht
    isplitl [Hp]; · iexact Hp
    isplitl [Hb] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem all_landed (c : Dev nD) :
    (bigSep Finset.univ fun s => landed (F := F) c s) = Pipeline.ownSems0 (Ix := Unit) (Name := ℕ) (U := UA) (Lvl := ℕ) (Val := Elt F) (τ := τ) ownSem c := by
  unfold landed Pipeline.ownSems0
  rw [bigSep_sep']
  exact (bigSep_univ_sum fun k : Fin 21 ⊕ Fin 21 => (semVal ((c : Thread nD τ), ownSem k) 0 : sProp 𝕄)).symm

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ (F := F) c from rfl, scopedRest0_eq, unscoped_eq, ← all_landed]
  unfold Φ₁ scratch
  iintro ⟨Hb, Hl, Hr⟩
  isplitl [Hb]; · iexact Hb
  isplitl [Hl]; · iexact Hl
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- An array after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every fair execution of the eight devices ends, with every array as `finalA` says and every counter at zero. -/
theorem run : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G (wAll m ρ)) (G' := G' (wAll m ρ)) (u₀ := u₀)
    (hu₀ := by
      unfold u₀
      iintro Hu
      ihave H := (ownU_pair _ _) $$ Hu
      icases H with ⟨HP, HX⟩
      imod (fund_cells (wAll m ρ)) $$ HX with HG
      imodintro
      isplitl [HP] <;> iassumption)
    (hglob := set_up (wAll m ρ))
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange

end
-- ==== Proof.KernelIdeal.Final.lean ====
/-
What every device's arrays hold after the run: its result array the computed block, its arguments what they held.
-/
module

public import proofs.«01_k».proof.Proof.KernelIdeal.Launch
public import Idealize.ShloMosaic.Lib.Pipeline.Value

@[expose] public section

noncomputable section

namespace Cert.KernelIdeal.Exchange

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## A window's one block is its whole array -/

theorem emb0 (i : S1024x256.Idx) : (win0_0.rect (0 : Fin 1)).emb i = i :=
  funext fun a => Fin.ext (Pipeline.Window.rect_emb_val_of_index_zero win0_0 (0 : Fin 1) a (by revert a; decide) i)
theorem emb1 (i : S256x32.Idx) : (win0_1.rect (0 : Fin 1)).emb i = i :=
  funext fun a => Fin.ext (Pipeline.Window.rect_emb_val_of_index_zero win0_1 (0 : Fin 1) a (by revert a; decide) i)
theorem emb2 (i : S1024x2.Idx) : (win0_2.rect (0 : Fin 1)).emb i = i :=
  funext fun a => Fin.ext (Pipeline.Window.rect_emb_val_of_index_zero win0_2 (0 : Fin 1) a (by revert a; decide) i)
theorem emb3 (i : S4x256x512.Idx) : (win0_3.rect (0 : Fin 1)).emb i = i :=
  funext fun a => Fin.ext (Pipeline.Window.rect_emb_val_of_index_zero win0_3 (0 : Fin 1) a (by revert a; decide) i)
theorem emb4 (i : S1024x512.Idx) : (win0_4.rect (0 : Fin 1)).emb i = i :=
  funext fun a => Fin.ext (Pipeline.Window.rect_emb_val_of_index_zero win0_4 (0 : Fin 1) a (by revert a; decide) i)

/-- The input blocks are the argument arrays. -/
theorem xIn_eq (c : Dev nD) : xIn m ρ c = m ((c : Thread nD τ).loc main_arg0) := funext fun i => congrArg (m ((c : Thread nD τ).loc main_arg0)) (emb0 i)
theorem rIn_eq (c : Dev nD) : rIn m ρ c = m ((c : Thread nD τ).loc main_arg1) := funext fun i => congrArg (m ((c : Thread nD τ).loc main_arg1)) (emb1 i)
theorem iIn_eq (c : Dev nD) : iIn m ρ c = m ((c : Thread nD τ).loc main_arg2) := funext fun i => congrArg (m ((c : Thread nD τ).loc main_arg2)) (emb2 i)
theorem eIn_eq (c : Dev nD) : eIn m ρ c = m ((c : Thread nD τ).loc main_arg3) := funext fun i => congrArg (m ((c : Thread nD τ).loc main_arg3)) (emb3 i)

theorem cover (i : S1024x512.Idx) : ∃ t : Fin cfg0.N, (cfg0.win (4 : Fin 5)).flush t = true ∧ i ∈ ((cfg0.win (4 : Fin 5)).blk t).view.set := by
  refine ⟨t0_0, flush0_4 _, ?_⟩
  show i ∈ ((View.whole main_v1).slice (win0_4.rect (0 : Fin 1))).set
  rw [View.set_slice_whole]
  have h : (win0_4.rect (0 : Fin 1)).emb i ∈ (win0_4.rect (0 : Fin 1)).set := by
    rw [← Rect.map_emb_univ]; exact Finset.mem_map_of_mem _ (Finset.mem_univ i)
  rwa [emb4] at h

/-- The result array is what the body leaves. -/
theorem final_out (c : Dev nD) : finalA m ρ c (4 : Fin 5) = (pt m ρ c).out :=
  (dats m ρ 0 c).arrAt_eq_of_cover (4 : Fin 5) (pt m ρ c).out (fun t _ => by
    obtain rfl := fin_N0 t
    exact funext fun i => (congrArg (pt m ρ c).out (emb4 i)).symm) cover

/-- Every fair execution ends, with the result block computed on every device, the arguments unchanged and every counter zero. -/
theorem ends : θ_run defs (onTc (τ := τ) (main (F := F))) ⟨m, fun _ => 0, ρ⟩ (fun r => (∀ c : Dev nD,
      r.2.mem ((c.tc : Thread nD τ).loc main_v1) = (pt m ρ c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (4 : Fin 5)).trans (final_out m ρ c),
      (h.1 c (0 : Fin 5)).trans ((dats m ρ 0 c).arrAt_in (0 : Fin 5) rfl _),
      (h.1 c (1 : Fin 5)).trans ((dats m ρ 0 c).arrAt_in (1 : Fin 5) rfl _),
      (h.1 c (2 : Fin 5)).trans ((dats m ρ 0 c).arrAt_in (2 : Fin 5) rfl _),
      (h.1 c (3 : Fin 5)).trans ((dats m ρ 0 c).arrAt_in (3 : Fin 5) rfl _)⟩, h.2⟩) (run m ρ)

end Cert.KernelIdeal.Exchange

end
-- ==== Proof.Value.Exact.lean ====
/-
The mathematics of one token over the extended reals: its two gates are non-negative real numbers, and a token scaled by the
sum of its gates of each expert, times the expert, summed over all experts, is the two gates' multiples of the token's
products with the two experts it names. The experts' weights may be infinite.
-/
module

public import Idealize.ShloMosaic.Lib.Pointwise

@[expose] public section

noncomputable section

namespace Cert.Routing

open Idealize.ShloMosaic

/-! ## The gates -/

/-- A token's score of expert `e`. -/
def score (x : Fin 256 → EReal) (r : Fin 256 → Fin 32 → EReal) (e : Fin 32) : EReal := ∑ k, x k * r k e

/-- The greatest score. -/
def top (s : Fin 32 → EReal) : EReal := Finset.univ.fold max (Ideal.ofBits .f32 0xFF800000#32) s

/-- The softmax of the scores at `e`. -/
def prob (s : Fin 32 → EReal) (e : Fin 32) : EReal := Ideal.div (Ideal.exp (s e - top s)) (∑ e', Ideal.exp (s e' - top s))

/-- The share of `p e` in the sum of the two chosen probabilities. -/
def gate (p : Fin 32 → EReal) (e e₀ e₁ : Fin 32) : EReal := Ideal.div (p e) (p e₀ + p e₁)

theorem lowest : Ideal.ofBits .f32 0xFF800000#32 = ⊥ := by
  simp [Ideal.ofBits, Ideal.ieee]

theorem real_of_abs {a : EReal} (h : a ≠ ⊤) (h' : a ≠ ⊥) : ∃ t : ℝ, a = t := ⟨a.toReal, (EReal.coe_toReal h h').symm⟩

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Finite tokens and router weights have finite scores. -/
theorem score_real {x : Fin 256 → EReal} {r : Fin 256 → Fin 32 → EReal} (hx : ∀ k, ∃ t : ℝ, x k = t) (hr : ∀ k e, ∃ t : ℝ, r k e = t) (e : Fin 32) :
    ∃ t : ℝ, score x r e = t := by
  choose x' hx' using hx
  choose r' hr' using hr
  refine ⟨∑ k, x' k * r' k e, ?_⟩
  rw [← coe_sum]
  exact Finset.sum_congr rfl fun k _ => by rw [hx', hr', EReal.coe_mul]

/-- The greatest of finite scores is finite. -/
theorem top_real {s : Fin 32 → EReal} (hs : ∀ e, ∃ t : ℝ, s e = t) : ∃ t : ℝ, top s = t := by
  refine real_of_abs (ne_of_lt ?_) (ne_of_gt ?_)
  · refine (Finset.fold_max_lt _).mpr ⟨by rw [lowest]; exact bot_lt_top, fun e _ => ?_⟩
    obtain ⟨t, ht⟩ := hs e
    rw [ht]
    exact EReal.coe_lt_top t
  · refine lt_of_lt_of_le ?_ ((Finset.le_fold_max _).mpr (Or.inr ⟨0, Finset.mem_univ _, le_rfl⟩))
    obtain ⟨t, ht⟩ := hs 0
    rw [ht]
    exact EReal.bot_lt_coe t

theorem div_coe (a b : ℝ) (hb : b ≠ 0) : Ideal.div (a : EReal) (b : EReal) = ((a / b : ℝ) : EReal) := by
  have hb' : (b : EReal) ≠ 0 := fun h => hb (EReal.coe_eq_zero.mp h)
  rw [Ideal.div, if_neg hb', ← EReal.coe_inv, ← EReal.coe_mul, div_eq_mul_inv]

/-- The softmax of finite scores is a positive real number. -/
theorem prob_real {s : Fin 32 → EReal} (hs : ∀ e, ∃ t : ℝ, s e = t) (e : Fin 32) : ∃ p : ℝ, 0 < p ∧ prob s e = p := by
  obtain ⟨m, hm⟩ := top_real hs
  choose s' hs' using hs
  have hexp : ∀ e, Ideal.exp (s e - top s) = ((Real.exp (s' e - m) : ℝ) : EReal) := fun e => by
    rw [hs', hm, ← EReal.coe_sub]; rfl
  have hpos : 0 < ∑ e', Real.exp (s' e' - m) := Finset.sum_pos (fun e' _ => Real.exp_pos _) ⟨0, Finset.mem_univ _⟩
  refine ⟨Real.exp (s' e - m) / ∑ e', Real.exp (s' e' - m), div_pos (Real.exp_pos _) hpos, ?_⟩
  unfold prob
  simp only [hexp]
  rw [coe_sum, div_coe _ _ hpos.ne']

/-- A gate is a non-negative real number. -/
theorem gate_real {s : Fin 32 → EReal} (hs : ∀ e, ∃ t : ℝ, s e = t) (e e₀ e₁ : Fin 32) : ∃ g : ℝ, 0 ≤ g ∧ gate (prob s) e e₀ e₁ = g := by
  obtain ⟨p, hp, h⟩ := prob_real hs e
  obtain ⟨p₀, hp₀, h₀⟩ := prob_real hs e₀
  obtain ⟨p₁, hp₁, h₁⟩ := prob_real hs e₁
  refine ⟨p / (p₀ + p₁), (div_pos hp (add_pos hp₀ hp₁)).le, ?_⟩
  rw [gate, h, h₀, h₁, ← EReal.coe_add, div_coe _ _ (add_pos hp₀ hp₁).ne']

/-! ## The sum over the experts -/

/-- A non-negative real factor comes out of a sum. -/
theorem mul_sum {ι : Type*} (s : Finset ι) (g : ℝ) (hg : 0 ≤ g) (f : ι → EReal) : (g : EReal) * ∑ i ∈ s, f i = ∑ i ∈ s, (g : EReal) * f i := by
  classical
  induction s using Finset.induction_on with
  | empty => simp
  | insert a s ha ih =>
    rw [Finset.sum_insert ha, Finset.sum_insert ha, EReal.left_distrib_of_nonneg_of_ne_top (EReal.coe_nonneg.mpr hg) (EReal.coe_ne_top g), ih]

/-- Two gates of one expert: their sum's multiple of a product is the sum of the multiples. -/
theorem two_gates (x g g' : ℝ) (hg : 0 ≤ g) (hg' : 0 ≤ g') (w : EReal) :
    ((x : EReal) * ((g : EReal) + (g' : EReal))) * w = (g : EReal) * ((x : EReal) * w) + (g' : EReal) * ((x : EReal) * w) := by
  rw [← EReal.right_distrib_of_nonneg (EReal.coe_nonneg.mpr hg) (EReal.coe_nonneg.mpr hg'), mul_comm (x : EReal), mul_assoc]

/-- One gate's part of the sum over all experts is the expert that it is the gate of. -/
theorem one_expert (g : ℝ) (x : Fin 256 → EReal) (w : Fin 32 → Fin 256 → EReal) (hg : 0 ≤ g) (e₀ : Fin 32) :
    (∑ e, ∑ k, (if e₀ = e then (g : EReal) else 0) * (x k * w e k)) = (g : EReal) * ∑ k, x k * w e₀ k := by
  rw [Finset.sum_eq_single e₀]
  · simp only [if_true]
    rw [mul_sum _ g hg]
  · intro e _ he
    exact Finset.sum_eq_zero fun k _ => by rw [if_neg (Ne.symm he), zero_mul]
  · exact fun h => absurd (Finset.mem_univ _) h

/-- The sum over all experts, of the token scaled by its gates of the expert, times the expert. -/
theorem all_experts {x : Fin 256 → EReal} (hx : ∀ k, ∃ t : ℝ, x k = t) {g₀ g₁ : EReal} (h₀ : ∃ g : ℝ, 0 ≤ g ∧ g₀ = g) (h₁ : ∃ g : ℝ, 0 ≤ g ∧ g₁ = g)
    (w : Fin 32 → Fin 256 → EReal) (e₀ e₁ : Fin 32) :
    (∑ e, ∑ k, (x k * ((if e₀ = e then g₀ else 0) + (if e₁ = e then g₁ else 0))) * w e k)
      = g₀ * (∑ k, x k * w e₀ k) + g₁ * (∑ k, x k * w e₁ k) := by
  obtain ⟨a, ha, rfl⟩ := h₀
  obtain ⟨b, hb, rfl⟩ := h₁
  rw [← one_expert a x w ha e₀, ← one_expert b x w hb e₁, ← Finset.sum_add_distrib]
  refine Finset.sum_congr rfl fun e _ => ?_
  rw [← Finset.sum_add_distrib]
  refine Finset.sum_congr rfl fun k _ => ?_
  obtain ⟨t, ht⟩ := hx k
  have ite_coe : ∀ (p : Prop) [Decidable p] (g : ℝ), (if p then (g : EReal) else 0) = (((if p then g else 0) : ℝ) : EReal) := fun p _ g => by
    split <;> simp
  rw [ht, ite_coe, ite_coe]
  exact two_gates t _ _ (by split <;> simp [ha]) (by split <;> simp [hb]) _

end Cert.Routing

end
-- ==== Proof.Value.Reference.lean ====
/-
What the reference computes over the extended reals, read at one token and one output lane: the two chosen experts' gates
times the token's products with them. `result` is the reference's result as a function of its four arguments.
-/
module

public import proofs.«01_k».proof.Proof.Gen.ReferenceIdeal
public import proofs.«01_k».proof.Proof.Value.Exact

@[expose] public section

noncomputable section

namespace Cert.ReferenceIdeal.Routed

open Cert.ReferenceIdeal Cert.ReferenceIdeal.Gen Cert.Routing
open Idealize.ShloMosaic Idealize.ShloMosaic.TcCoe

variable {F : FTy → Type} [FloatOps F]

/-! ## The reference, step by step -/

/-- The scores, the softmax's numerators, and the probabilities. -/
def scores (x : FVec F S8192x256 .f32) (r : FVec F S256x32 .f32) : FVec F S8192x32 .f32 :=
  Host.dotGeneral dot_S8192x256_S256x32_S8192x32_1_0_0_1_n_n none x r

def powers (s : FVec F S8192x32 .f32) : FVec F S8192x32 .f32 :=
  Host.exp (subf s (broadcastInDim S8192x32 ![0, 1] bcast_S8192x1_S8192x32_0_1 (broadcastInDim S8192x1 ![0] bcast_S8192_S8192x1_0
    (Host.reduce FloatOps.maximumf s (constant S_ .f32 0xFF800000#32) reducesTo_S8192x32_S8192_d1 h_S_))))

def probs (p : FVec F S8192x32 .f32) : FVec F S8192x32 .f32 :=
  Host.divf p (broadcastInDim S8192x32 ![0, 1] bcast_S8192x1_S8192x32_0_1 (broadcastInDim S8192x1 ![0] bcast_S8192_S8192x1_0
    (Host.reduceAdd p (constant S_ .f32 0x00000000#32) reducesTo_S8192x32_S8192_d1 h_S_)))

/-- Expert numbers with the negative ones counted from the end, as a column and as a box. -/
def wrap (e : IVec S8192x1 32) : IVec S8192x1x1 32 :=
  shapeCast S8192x1x1 (select (cmpi .slt e (broadcastInDim S8192x1 ![] bcast_S_S8192x1 (constantI S_ 32 0#32)))
    (addi e (broadcastInDim S8192x1 ![] bcast_S_S8192x1 (constantI S_ 32 32#32))) e) shapeCasts_S8192x1_S8192x1x1

def box (e : IVec S8192x1 32) : IVec S8192x1x1 32 := broadcastInDim S8192x1x1 ![0, 1] bcast_S8192x1_S8192x1x1_0_1 e

def wrapBox (e : IVec S8192x1x1 32) : IVec S8192x1x1 32 :=
  select (cmpi .slt e (broadcastInDim S8192x1x1 ![] bcast_S_S8192x1x1 (constantI S_ 32 0#32)))
    (addi e (broadcastInDim S8192x1x1 ![] bcast_S_S8192x1x1 (constantI S_ 32 32#32))) e

/-- Whether an expert number is one of the thirty-two. -/
def inside (e : IVec S8192x1x1 32) : IVec S8192x1 1 :=
  Host.reduce IntOp.andi (andi (cmpi .sge e (broadcastInDim S8192x1x1 ![] bcast_S_S8192x1x1 (constantI S_ 32 0#32)))
    (cmpi .sle e (broadcastInDim S8192x1x1 ![0, 1, 2] bcast_S1x1x1_S8192x1x1_0_1_2 (broadcastInDim S1x1x1 ![2] bcast_S1_S1x1x1_2 (constantI S1 32 31#32)))))
    (constantI S_ 1 1#1) reducesTo_S8192x1x1_S8192x1_d2 h_S_

/-- The probability, and the products, of the expert that is named. -/
def takeProb (p : FVec F S8192x32 .f32) (e : IVec S8192x1x1 32) : FVec F S8192x1 .f32 :=
  select (inside e) (Host.gather gather_S8192x32_S8192x1x1_S8192x1_n_1_0_0_1_2_11 p e) (broadcastInDim S8192x1 ![] bcast_S_S8192x1 (constant S_ .f32 0x7FC00000#32))

def products (x : FVec F S8192x256 .f32) (w : FVec F S32x256x512 .f32) : FVec F S8192x32x512 .f32 :=
  Host.dotGeneral dot_S8192x256_S32x256x512_S8192x32x512_1_1_0_02_n_n none x w

def takeProducts (y : FVec F S8192x32x512 .f32) (e : IVec S8192x1x1 32) : FVec F S8192x512 .f32 :=
  shapeCast S8192x512 (select (broadcastInDim S8192x1x512 ![0, 1] bcast_S8192x1_S8192x1x512_0_1 (inside e))
    (Host.gather gather_S8192x32x512_S8192x1x1_S8192x1x512_2_1_0_0_1_2_11512 y e)
    (broadcastInDim S8192x1x512 ![] bcast_S_S8192x1x512 (constant S_ .f32 0x7FC00000#32))) shapeCasts_S8192x1x512_S8192x512

def first (i : IVec S8192x2 32) : IVec S8192x1 32 := extractStridedSlice S8192x1 ![0, 0] i slices_S8192x2_S8192x1_0_0
def second (i : IVec S8192x2 32) : IVec S8192x1 32 := extractStridedSlice S8192x1 ![0, 1] i slices_S8192x2_S8192x1_0_1

/-- One chosen expert's share of the result. -/
def share (g gs : FVec F S8192x1 .f32) (y : FVec F S8192x512 .f32) : FVec F S8192x512 .f32 :=
  mulf (broadcastInDim S8192x512 ![0, 1] bcast_S8192x1_S8192x512_0_1 (Host.divf g gs)) y

/-- The reference's result. -/
def result (x : FVec F S8192x256 .f32) (r : FVec F S256x32 .f32) (i : IVec S8192x2 32) (w : FVec F S32x256x512 .f32) : FVec F S8192x512 .f32 :=
  addf
    (share (takeProb (probs (powers (scores x r))) (wrap (first i)))
      (addf (takeProb (probs (powers (scores x r))) (wrap (first i))) (takeProb (probs (powers (scores x r))) (wrap (second i))))
      (takeProducts (products x w) (wrapBox (box (first i)))))
    (share (takeProb (probs (powers (scores x r))) (wrap (second i)))
      (addf (takeProb (probs (powers (scores x r))) (wrap (first i))) (takeProb (probs (powers (scores x r))) (wrap (second i))))
      (takeProducts (products x w) (wrapBox (box (second i)))))

/-! ## Read at an index -/

variable (x : FVec Ideal S8192x256 .f32) (r : FVec Ideal S256x32 .f32) (i : IVec S8192x2 32) (w : FVec Ideal S32x256x512 .f32)

/-- Token `t`, the router's weights, and the experts' weights of output lane `h`, by coordinates. -/
def token (t : Fin 8192) : Fin 256 → EReal := fun k => x (ix2 t k)
def router : Fin 256 → Fin 32 → EReal := fun k e => r (ix2 k e)
def weight (h : Fin 512) : Fin 32 → Fin 256 → EReal := fun e k => w (ix3 e k h)

theorem probs_apply (t : Fin 8192) (e : Fin 32) : probs (powers (scores x r)) (ix2 t e) = prob (score (token x t) (router r)) e := by
  pointwise [probs, powers, scores, prob, top, score, token, router]

theorem products_apply (t : Fin 8192) (e : Fin 32) (h : Fin 512) : products x w (ix3 t e h) = ∑ k, token x t k * weight w h e k := by
  pointwise [products, token, weight]

/-- The word of an expert number is not negative, and is at most 31. -/
theorem not_negative (e : Fin 32) : IntOp.cmpi .slt (BitVec.ofNat 32 e.val) 0#32 = 0#1 := by revert e; decide
theorem at_least (e : Fin 32) : IntOp.cmpi .sge (BitVec.ofNat 32 e.val) 0#32 = 1#1 := by revert e; decide
theorem at_most (e : Fin 32) : IntOp.cmpi .sle (BitVec.ofNat 32 e.val) 31#32 = 1#1 := by revert e; decide
theorem word_value (e : Fin 32) : min (BitVec.ofNat 32 e.val).toInt.toNat 31 = e.val := by revert e; decide

variable {e : Fin 32} {t : Fin 8192}

theorem wrap_apply {c : IVec S8192x1 32} (h : c (ix2 t 0) = BitVec.ofNat 32 e.val) : wrap c (ix3 t 0 0) = BitVec.ofNat 32 e.val := by
  pointwise [wrap]
  rw [h, not_negative]
  rfl

theorem wrapBox_apply {c : IVec S8192x1 32} (h : c (ix2 t 0) = BitVec.ofNat 32 e.val) : wrapBox (box c) (ix3 t 0 0) = BitVec.ofNat 32 e.val := by
  pointwise [wrapBox, box]
  rw [h, not_negative]
  rfl

theorem inside_apply {c : IVec S8192x1x1 32} (h : c (ix3 t 0 0) = BitVec.ofNat 32 e.val) : inside c (ix2 t 0) = 1#1 := by
  pointwise [inside]
  rw [Finset.univ_unique, Finset.fold_singleton]
  show IntOp.andi (IntOp.andi (IntOp.cmpi .sge (c (ix3 t 0 0)) 0#32) (IntOp.cmpi .sle (c (ix3 t 0 0)) 31#32)) 1#1 = 1#1
  rw [h, at_least, at_most]
  rfl

/-- The probability gathered at an expert number. -/
theorem gather_prob {c : IVec S8192x1x1 32} (h : c (ix3 t 0 0) = BitVec.ofNat 32 e.val) (p : FVec Ideal S8192x32 .f32) :
    Host.gather gather_S8192x32_S8192x1x1_S8192x1_n_1_0_0_1_2_11 p c (ix2 t 0) = p (ix2 t e) := by
  have hmem : (1 : Fin 2) ∈ gather_S8192x32_S8192x1x1_S8192x1_n_1_0_0_1_2_11.startIndexMap := List.mem_singleton.mpr rfl
  have hsi : gather_S8192x32_S8192x1x1_S8192x1_n_1_0_0_1_2_11.siIdx (ix2 t 0)
      ⟨gather_S8192x32_S8192x1x1_S8192x1_n_1_0_0_1_2_11.startIndexMap.idxOf 1, List.idxOf_lt_length_iff.2 hmem⟩ = ix3 t 0 0 := by
    funext b
    match b with
    | ⟨0, _⟩ => rfl
    | ⟨1, _⟩ => rfl
    | ⟨2, _⟩ => rfl
  unfold Host.gather
  congr 1
  funext a
  refine Fin.ext ?_
  show GatherDims.start _ _ _ a + GatherDims.batchCoord _ _ a + GatherDims.offCoord _ _ a = _
  match a with
  | ⟨0, _⟩ =>
    rw [GatherDims.start_batching _ _ _ _ (List.mem_singleton.mpr rfl), GatherDims.offCoord_eq_zero _ _ _ (fun h => ((GatherDims.mem_sKept _ _).mp h).2 (List.mem_singleton.mpr rfl))]
    simp only [Nat.add_zero, Nat.zero_add]
    rfl
  | ⟨1, _⟩ =>
    rw [GatherDims.batchCoord_eq_zero _ _ _ (show (1 : Fin 2) ∉ _ by decide), GatherDims.offCoord_eq_zero _ _ _ (fun h => ((GatherDims.mem_sKept _ _).mp h).1 (List.mem_singleton.mpr rfl))]
    simp only [Nat.add_zero]
    unfold GatherDims.start
    rw [dif_pos (show (⟨1, _⟩ : Fin 2) ∈ _ from hmem)]
    refine Eq.trans ?_ (word_value e)
    rw [← h, ← hsi]
    rfl

/-- The product gathered at an expert number. -/
theorem gather_products {c : IVec S8192x1x1 32} (h : c (ix3 t 0 0) = BitVec.ofNat 32 e.val) (y : FVec Ideal S8192x32x512 .f32) (l : Fin 512) :
    Host.gather gather_S8192x32x512_S8192x1x1_S8192x1x512_2_1_0_0_1_2_11512 y c (ix3 t 0 l) = y (ix3 t e l) := by
  have hmem : (1 : Fin 3) ∈ gather_S8192x32x512_S8192x1x1_S8192x1x512_2_1_0_0_1_2_11512.startIndexMap := List.mem_singleton.mpr rfl
  have hsi : gather_S8192x32x512_S8192x1x1_S8192x1x512_2_1_0_0_1_2_11512.siIdx (ix3 t 0 l)
      ⟨gather_S8192x32x512_S8192x1x1_S8192x1x512_2_1_0_0_1_2_11512.startIndexMap.idxOf 1, List.idxOf_lt_length_iff.2 hmem⟩ = ix3 t 0 0 := by
    funext b
    match b with
    | ⟨0, _⟩ => rfl
    | ⟨1, _⟩ => rfl
    | ⟨2, _⟩ => rfl
  unfold Host.gather
  congr 1
  funext a
  refine Fin.ext ?_
  show GatherDims.start _ _ _ a + GatherDims.batchCoord _ _ a + GatherDims.offCoord _ _ a = _
  match a with
  | ⟨0, _⟩ =>
    rw [GatherDims.start_batching _ _ _ _ (List.mem_singleton.mpr rfl), GatherDims.offCoord_eq_zero _ _ _ (fun h => ((GatherDims.mem_sKept _ _).mp h).2 (List.mem_singleton.mpr rfl))]
    simp only [Nat.add_zero, Nat.zero_add]
    rfl
  | ⟨1, _⟩ =>
    rw [GatherDims.batchCoord_eq_zero _ _ _ (show (1 : Fin 3) ∉ _ by decide), GatherDims.offCoord_eq_zero _ _ _ (fun h => ((GatherDims.mem_sKept _ _).mp h).1 (List.mem_singleton.mpr rfl))]
    simp only [Nat.add_zero]
    unfold GatherDims.start
    rw [dif_pos (show (⟨1, _⟩ : Fin 3) ∈ _ from hmem)]
    refine Eq.trans ?_ (word_value e)
    rw [← h, ← hsi]
    rfl
  | ⟨2, _⟩ =>
    rw [GatherDims.batchCoord_eq_zero _ _ _ (show (2 : Fin 3) ∉ _ by decide)]
    unfold GatherDims.start
    rw [dif_neg (show ¬ (⟨2, _⟩ : Fin 3) ∈ gather_S8192x32x512_S8192x1x1_S8192x1x512_2_1_0_0_1_2_11512.startIndexMap from (show ¬ (2 : Fin 3) ∈ [(1 : Fin 3)] by decide))]
    simp only [Nat.add_zero, Nat.zero_add]
    rfl

theorem takeProb_apply {c : IVec S8192x1x1 32} (h : c (ix3 t 0 0) = BitVec.ofNat 32 e.val) (p : FVec Ideal S8192x32 .f32) :
    takeProb p c (ix2 t 0) = p (ix2 t e) := by
  pointwise [takeProb]
  rw [inside_apply h, gather_prob h]
  rfl

theorem takeProducts_apply {c : IVec S8192x1x1 32} (h : c (ix3 t 0 0) = BitVec.ofNat 32 e.val) (y : FVec Ideal S8192x32x512 .f32) (l : Fin 512) :
    takeProducts y c (ix2 t l) = y (ix3 t e l) := by
  pointwise [takeProducts]
  rw [inside_apply h, gather_products h]
  rfl

/-- The reference's value at a token that names the experts `e₀` and `e₁`. -/
theorem result_apply {e₀ e₁ : Fin 32} (h₀ : i (ix2 t 0) = BitVec.ofNat 32 e₀.val) (h₁ : i (ix2 t 1) = BitVec.ofNat 32 e₁.val) (l : Fin 512) :
    result x r i w (ix2 t l)
      = gate (prob (score (token x t) (router r))) e₀ e₀ e₁ * (∑ k, token x t k * weight w l e₀ k)
        + gate (prob (score (token x t) (router r))) e₁ e₀ e₁ * (∑ k, token x t k * weight w l e₁ k) := by
  have c₀ : first i (ix2 t 0) = BitVec.ofNat 32 e₀.val := by pointwise [first]; exact h₀
  have c₁ : second i (ix2 t 0) = BitVec.ofNat 32 e₁.val := by pointwise [second]; exact h₁
  pointwise [result, share]
  rw [takeProb_apply (wrap_apply c₀), takeProb_apply (wrap_apply c₁), takeProducts_apply (wrapBox_apply c₀), takeProducts_apply (wrapBox_apply c₁),
    probs_apply, probs_apply, products_apply, products_apply]
  rfl

end Cert.ReferenceIdeal.Routed

end
-- ==== Proof.Value.Whole.lean ====
/-
The reference's run leaves `Routed.result` of its arguments.
-/
module

public import proofs.«01_k».proof.Proof.Gen.ReferenceIdeal.Run
public import proofs.«01_k».proof.Proof.Value.Reference

@[expose] public section

noncomputable section

namespace Cert.ReferenceIdeal.Routed

open Cert.ReferenceIdeal Cert.ReferenceIdeal.Gen
open Idealize.ShloMosaic Idealize.ShloMosaic.TcCoe

variable {F : FTy → Type} [FloatOps F]

/-- What the run is known to leave is the reference's result as it is written above. -/
theorem res_eq (m : (ℓ : Loc nD τ sig) → Buf (Elt F) ℓ) (c : Dev nD) :
    Cert.ReferenceIdeal.Value.res_out0 m c
      = result (m ((c.tc : Thread nD τ).loc main_arg0)) (m ((c.tc : Thread nD τ).loc main_arg1)) (m ((c.tc : Thread nD τ).loc main_arg2)) (m ((c.tc : Thread nD τ).loc main_arg3)) := rfl

end Cert.ReferenceIdeal.Routed

end
-- ==== Proof.Value.Fold.lean ====
/-
The result block as thirty-two additions: slot after slot, expert after expert, each the tokens scaled by their gate of that
expert, times the expert.
-/
module

public import proofs.«01_k».proof.Proof.KernelIdeal.Values

@[expose] public section

noncomputable section

namespace Cert.KernelIdeal.Exchange.Point

open Cert.KernelIdeal Cert.KernelIdeal.Gen
open Idealize.ShloMosaic Idealize.ShloMosaic.TcCoe

variable {F : FTy → Type} [FloatOps F] (a : Point F)

/-- Every token's gate of expert `n`: the first gate if the token names `n` first, and the second if it names it second. -/
def coef (n : BitVec 32) : FVec F S1024x1 .f32 :=
  addf (select (cmpi .eq a.e0 (broadcast S1024x1 n)) a.g0 (broadcast S1024x1 (Scalar.ofBits .f32 0x00000000#32)))
    (select (cmpi .eq a.e1 (broadcast S1024x1 n)) a.g1 (broadcast S1024x1 (Scalar.ofBits .f32 0x00000000#32)))

/-- The tokens, each scaled by its gate of expert `n` and rounded. -/
def scaled (n : BitVec 32) : FVec F S1024x256 .bf16 :=
  truncf .bf16 (mulf a.xs (broadcastTo S1024x256 (a.coef n) broadcasts_S1024x1_S1024x256)) bitsLt_bf16_f32

theorem expert_slices (j : Fin 4) : S4x256x512.Slices ![j.val, 0, 0] S1x256x512 := by revert j; decide

/-- Expert `j` of a device's four. -/
def expert (w : Vec F S4x256x512 .bf16) (j : Fin 4) : FVec F S256x512 .bf16 :=
  shapeCast S256x512 (extractStridedSlice S1x256x512 ![j.val, 0, 0] w (expert_slices j)) shapeCasts_S1x256x512_S256x512

/-- One expert's addition. -/
def add (n : BitVec 32) (w : Vec F S4x256x512 .bf16) (j : Fin 4) (acc : FVec F S1024x512 .f32) : FVec F S1024x512 .f32 :=
  addf acc (matmul dot_S1024x256_S256x512_S1024x512_1_0_0_1_n_n none (a.scaled n) (expert w j) (constant S1024x512 .f32 0x00000000#32))

/-- The number of expert `j` of device `b`. -/
def number (b : BitVec 32) (j : BitVec 32) : BitVec 32 := Scalar.addi (Scalar.muli b 4#32) j

/-- One device's four experts. -/
def addFour (b : BitVec 32) (w : Vec F S4x256x512 .bf16) (acc : FVec F S1024x512 .f32) : FVec F S1024x512 .f32 :=
  a.add (number b 3#32) w 3 (a.add (number b 2#32) w 2 (a.add (number b 1#32) w 1 (a.add (number b 0#32) w 0 acc)))

/-- The sum before any expert. -/
def none_yet : FVec F S1024x512 .f32 := broadcast S1024x512 (Scalar.ofBits .f32 0x00000000#32)

theorem acc0_eq : a.acc0 = a.addFour a.b0 a.w0 none_yet := rfl
theorem acc1_eq : a.acc1 = a.addFour a.b1 a.w1 a.acc0 := rfl
theorem acc4_eq : a.acc4 = a.addFour a.b4 a.w4 (a.addFour a.b3 a.w3 a.acc1) := rfl
theorem acc7_eq : a.acc7 = a.addFour a.b7 a.w7 (a.addFour a.b5 a.w5 (a.addFour a.b2 a.w2 a.acc4)) := rfl
theorem out_last : a.out = a.addFour a.b6 a.w6 a.acc7 := rfl

/-- The result block: the slots in the order 0, 1, 3, 4, 2, 5, 7, 6. -/
theorem out_eq : a.out = a.addFour a.b6 a.w6 (a.addFour a.b7 a.w7 (a.addFour a.b5 a.w5 (a.addFour a.b2 a.w2
    (a.addFour a.b4 a.w4 (a.addFour a.b3 a.w3 (a.addFour a.b1 a.w1 (a.addFour a.b0 a.w0 none_yet))))))) := by
  rw [out_last, acc7_eq, acc4_eq, acc1_eq, acc0_eq]

end Cert.KernelIdeal.Exchange.Point

end
-- ==== Proof.Value.Block.lean ====
/-
What one block computes over the extended reals, read at one token and one output lane.
-/
module

public import proofs.«01_k».proof.Proof.Value.Fold
public import proofs.«01_k».proof.Proof.Value.Exact

@[expose] public section

noncomputable section

namespace Cert.KernelIdeal.Exchange.Point

open Cert.KernelIdeal Cert.KernelIdeal.Gen Cert.Routing
open Idealize.ShloMosaic Idealize.ShloMosaic.TcCoe

variable (a : Point Ideal)

/-- A value selected by a comparison of words. -/
theorem select_eq (u v : BitVec 32) (y z : EReal) : Scalar.select (IntOp.cmpi .eq u v) y z = if u = v then y else z := by
  by_cases h : u = v
  · subst h; simp [Scalar.select, IntOp.cmpi]
  · have hb : (u == v) = false := by simpa using h
    simp [Scalar.select, IntOp.cmpi, h, hb]

/-! ## The gates -/

/-- The two columns of the expert numbers. -/
theorem col0_apply (i : Fin 1024) : a.col0 (ix2 i 0) = a.i (ix2 i 0) := by
  show a.i _ = a.i _
  congr 1
  funext b
  match b with | ⟨0, _⟩ => exact Fin.ext (by show 0 + 1 * i.val = i.val; omega) | ⟨1, _⟩ => rfl

theorem col1_apply (i : Fin 1024) : a.col1 (ix2 i 0) = a.i (ix2 i 1) := by
  show a.i _ = a.i _
  congr 1
  funext b
  match b with | ⟨0, _⟩ => exact Fin.ext (by show 0 + 1 * i.val = i.val; omega) | ⟨1, _⟩ => rfl

theorem e0_apply (i : Fin 1024) : a.e0 (ix2 i 0) = a.i (ix2 i 0) := by
  pointwise [e0, k0_pay5]
  exact a.col0_apply i

theorem e1_apply (i : Fin 1024) : a.e1 (ix2 i 0) = a.i (ix2 i 1) := by
  pointwise [e1, k0_pay6]
  exact a.col1_apply i

/-- Token `i`, and the router's weights, by coordinates. -/
def token (i : Fin 1024) : Fin 256 → EReal := fun k => a.x (ix2 i k)
def router : Fin 256 → Fin 32 → EReal := fun k e => a.r (ix2 k e)

/-- The block's probabilities are the softmax of the tokens' scores. -/
theorem scores_apply (i : Fin 1024) (e : Fin 32) : a.scores (ix2 i e) = prob (score (a.token i) a.router) e := by
  pointwise [scores, k0_pay4, k0_pay3, prob, top, score, token, router]

/-- A sum over the lanes of what is selected on one lane. -/
theorem pick (p : Fin 32 → EReal) (e : Fin 32) :
    (∑ l : Fin 32, Scalar.select (IntOp.cmpi .eq (BitVec.ofNat 32 l.val) (BitVec.ofNat 32 e.val)) (p l) 0) = p e := by
  rw [Finset.sum_eq_single e]
  · rw [select_eq, if_pos rfl]
  · intro l _ hl
    rw [select_eq, if_neg]
    intro h
    exact hl (by revert l e; decide)
  · exact fun h => absurd (Finset.mem_univ _) h

variable {i : Fin 1024} {e₀ e₁ : Fin 32}

theorem g0_apply (h₀ : a.i (ix2 i 0) = BitVec.ofNat 32 e₀.val) (h₁ : a.i (ix2 i 1) = BitVec.ofNat 32 e₁.val) :
    a.g0 (ix2 i 0) = gate (prob (score (a.token i) a.router)) e₀ e₀ e₁ := by
  have c₀ := (a.col0_apply i).trans h₀
  have c₁ := (a.col1_apply i).trans h₁
  pointwise [g0, k0_pay10, k0_pay9, k0_pay8, k0_pay7, k0_pay5, k0_pay6]
  simp only [c₀, c₁, scores_apply, pick]
  rfl

theorem g1_apply (h₀ : a.i (ix2 i 0) = BitVec.ofNat 32 e₀.val) (h₁ : a.i (ix2 i 1) = BitVec.ofNat 32 e₁.val) :
    a.g1 (ix2 i 0) = gate (prob (score (a.token i) a.router)) e₁ e₀ e₁ := by
  have c₀ := (a.col0_apply i).trans h₀
  have c₁ := (a.col1_apply i).trans h₁
  pointwise [g1, k0_pay11, k0_pay9, k0_pay8, k0_pay7, k0_pay5, k0_pay6]
  simp only [c₀, c₁, scores_apply, pick]
  rfl

/-! ## One expert, one device, all devices -/

/-- The gate of expert `n` of token `i`. -/
theorem coef_apply (n : BitVec 32) (i : Fin 1024) :
    a.coef n (ix2 i 0) = (if a.i (ix2 i 0) = n then a.g0 (ix2 i 0) else 0) + (if a.i (ix2 i 1) = n then a.g1 (ix2 i 0) else 0) := by
  pointwise [coef]
  rw [e0_apply, e1_apply, select_eq, select_eq]

/-- One expert's addition. -/
theorem add_apply (n : BitVec 32) (w : Vec Ideal S4x256x512 .bf16) (j : Fin 4) (acc : FVec Ideal S1024x512 .f32) (i : Fin 1024) (h : Fin 512) :
    a.add n w j acc (ix2 i h) = acc (ix2 i h) + ∑ k : Fin 256, (a.token i k * a.coef n (ix2 i 0)) * w (ix3 j k h) := by
  pointwise [add, scaled, expert, xs, k0_pay3, token]

theorem none_yet_apply (i : Fin 1024) (h : Fin 512) : (none_yet : FVec Ideal S1024x512 .f32) (ix2 i h) = 0 := by
  pointwise [none_yet]

/-- What expert `j` of device `d` adds. -/
def part (i : Fin 1024) (h : Fin 512) (d : Fin 8) (j : Fin 4) : EReal :=
  ∑ k : Fin 256, (a.token i k * a.coef (BitVec.ofNat 32 (j.val + 4 * d.val)) (ix2 i 0)) * a.w d (ix3 j k h)

/-- The numbers that are computed for the experts of device `c ⊕ M` are those experts' numbers among all thirty-two. -/
theorem number_eq (c : Dev nD) (M : Fin 8) (j : Fin 4) :
    number (Scalar.xori (Scalar.remsi (Scalar.divsi (Dev.word c) 1#32) 8#32) (BitVec.ofNat 32 M.val)) (BitVec.ofNat 32 j.val)
      = BitVec.ofNat 32 (j.val + 4 * (home c M).val) := by
  revert c M j
  decide

/-- The four experts of device `c ⊕ M`. -/
theorem addFour_apply (M : Fin 8) (b : BitVec 32) (hb : b = Scalar.xori a.me (BitVec.ofNat 32 M.val)) (w : Vec Ideal S4x256x512 .bf16)
    (hw : ∀ (j : Fin 4) (k : Fin 256) (h : Fin 512), w (ix3 j k h) = a.w (home a.c M) (ix3 j k h)) (acc : FVec Ideal S1024x512 .f32) (i : Fin 1024) (h : Fin 512) :
    a.addFour b w acc (ix2 i h) = acc (ix2 i h) + ∑ j : Fin 4, a.part i h (home a.c M) j := by
  have hn : ∀ j : Fin 4, number b (BitVec.ofNat 32 j.val) = BitVec.ofNat 32 (j.val + 4 * (home a.c M).val) := by
    subst hb
    unfold me
    exact number_eq a.c M
  have h0 := hn 0
  have h1 := hn 1
  have h2 := hn 2
  have h3 := hn 3
  unfold addFour
  simp only [add_apply, hw]
  rw [Fin.sum_univ_four]
  unfold part
  rw [← h0, ← h1, ← h2, ← h3]
  simp only [add_assoc]
  rfl

/-- What a slot holds, by coordinates. -/
theorem slot_apply (M : Fin 8) (j : Fin 4) (k : Fin 256) (h : Fin 512) : k0_pay16 (a.slot M) (ix3 j k h) = a.w (home a.c M) (ix3 j k h) := by
  pointwise [k0_pay16]
  have e : (wholeSlot M).toLoadRect.idx (ix4 0 j k h) = ix4 M j k h := by
    funext b
    match b with
    | ⟨0, _⟩ => rfl
    | ⟨1, _⟩ => exact Fin.ext (by show 0 + 1 * j.val = j.val; omega)
    | ⟨2, _⟩ => exact Fin.ext (by show 0 + 1 * k.val = k.val; omega)
    | ⟨3, _⟩ => exact Fin.ext (by show 0 + 1 * h.val = h.val; omega)
  show gathered a.w a.c ((wholeSlot M).toLoadRect.idx (ix4 0 j k h)) = _
  rw [e, ix3_eq_valueIdx]
  rfl

theorem home_zero (c : Dev nD) : home c 0 = c := by revert c; decide

/-- Every device's experts are added once, whatever the block's device. -/
theorem all_homes (c : Dev nD) (f : Fin 8 → EReal) :
    f (home c 0) + f (home c 1) + f (home c 3) + f (home c 4) + f (home c 2) + f (home c 5) + f (home c 7) + f (home c 6) = ∑ d, f d := by
  have hinv : Function.Involutive (home c) := by intro d; revert c d; decide
  have hs : ∑ d, f d = ∑ M, f (home c M) := (Equiv.sum_comp hinv.toPerm f).symm
  rw [hs, Fin.sum_univ_eight]
  ac_rfl

/-- The result block at token `i` and lane `h`: the sum over all devices' experts. -/
theorem out_apply (i : Fin 1024) (h : Fin 512) : a.out (ix2 i h) = ∑ d : Fin 8, ∑ j : Fin 4, a.part i h d j := by
  rw [out_eq, a.addFour_apply 6 a.b6 rfl a.w6 (a.slot_apply 6), a.addFour_apply 7 a.b7 rfl a.w7 (a.slot_apply 7), a.addFour_apply 5 a.b5 rfl a.w5 (a.slot_apply 5),
    a.addFour_apply 2 a.b2 rfl a.w2 (a.slot_apply 2), a.addFour_apply 4 a.b4 rfl a.w4 (a.slot_apply 4), a.addFour_apply 3 a.b3 rfl a.w3 (a.slot_apply 3),
    a.addFour_apply 1 a.b1 rfl a.w1 (a.slot_apply 1), a.addFour_apply 0 a.b0 rfl a.w0 (fun j k h => by rw [home_zero]; rfl), none_yet_apply, zero_add]
  exact all_homes a.c fun d => ∑ j : Fin 4, a.part i h d j

/-! ## The block's value -/

/-- Weight `(k, h)` of expert `e` of all thirty-two. -/
def weight (h : Fin 512) (e : Fin 32) (k : Fin 256) : EReal := a.w (⟨e.val / 4, by omega⟩ : Fin 8) (ix3 (⟨e.val % 4, by omega⟩ : Fin 4) k h)

/-- A sum over devices and their experts is a sum over all experts. -/
theorem sum_experts (f : Fin 32 → EReal) : (∑ d : Fin 8, ∑ j : Fin 4, f ⟨j.val + 4 * d.val, by omega⟩) = ∑ e, f e := by
  rw [← Fintype.sum_prod_type']
  exact Fintype.sum_equiv (finProdFinEquiv (m := 8) (n := 4)) _ _ fun p => rfl

theorem ofNat_eq_iff (e e' : Fin 32) : BitVec.ofNat 32 e.val = BitVec.ofNat 32 e'.val ↔ e = e' := by revert e e'; decide

/-- The block's value: finite tokens and router weights, and expert numbers below 32. -/
theorem out_value (hx : ∀ k, ∃ t : ℝ, a.token i k = t) (hr : ∀ k e, ∃ t : ℝ, a.router k e = t)
    (h₀ : a.i (ix2 i 0) = BitVec.ofNat 32 e₀.val) (h₁ : a.i (ix2 i 1) = BitVec.ofNat 32 e₁.val) (h : Fin 512) :
    a.out (ix2 i h)
      = gate (prob (score (a.token i) a.router)) e₀ e₀ e₁ * (∑ k, a.token i k * a.weight h e₀ k)
        + gate (prob (score (a.token i) a.router)) e₁ e₀ e₁ * (∑ k, a.token i k * a.weight h e₁ k) := by
  have hs := score_real hx hr
  rw [← all_experts hx (gate_real hs e₀ e₀ e₁) (gate_real hs e₁ e₀ e₁) (a.weight h) e₀ e₁, out_apply,
    ← sum_experts]
  refine Finset.sum_congr rfl fun d _ => Finset.sum_congr rfl fun j _ => ?_
  unfold part
  refine Finset.sum_congr rfl fun k _ => ?_
  rw [coef_apply, a.g0_apply h₀ h₁, a.g1_apply h₀ h₁, h₀, h₁]
  have hd : (⟨(j.val + 4 * d.val) / 4, by omega⟩ : Fin 8) = d := Fin.ext (by show (j.val + 4 * d.val) / 4 = d.val; omega)
  have hj : (⟨(j.val + 4 * d.val) % 4, by omega⟩ : Fin 4) = j := Fin.ext (by show (j.val + 4 * d.val) % 4 = j.val; omega)
  have hi : ∀ e : Fin 32, (BitVec.ofNat 32 e.val = BitVec.ofNat 32 (j.val + 4 * d.val)) = (e = ⟨j.val + 4 * d.val, by omega⟩) := fun e =>
    propext (ofNat_eq_iff e ⟨j.val + 4 * d.val, by omega⟩)
  unfold weight
  simp only [hi, hd, hj]

end Cert.KernelIdeal.Exchange.Point

end
-- ==== Proof.Value.Routed.lean ====
/-
What the precondition says of one device's blocks: every expert number names an expert, and the tokens and the router's
weights are real numbers.
-/
module

public import proofs.«01_k».proof.Defs
public import proofs.«01_k».proof.Proof.Value.Exact
public import Idealize.ShloMosaic.Lib.ReduceAll
public import Idealize.ShloMosaic.Lib.WordCmp
public import Idealize.ShloMosaic.Lib.Pointwise

@[expose] public section

noncomputable section

namespace Cert.Pre_routed_KernelIdeal

/-- The shape relations the kernel's precondition states. -/
theorem shapes : Facts := by
  refine ⟨?_, ?_, ?_, ?_, ?_, ?_, ?_⟩ <;> decide

end Cert.Pre_routed_KernelIdeal

namespace Cert.Pre_routed_ReferenceIdeal

/-- The shape relations the reference's precondition states. -/
theorem shapes : Facts := by
  refine ⟨?_, ?_, ?_, ?_, ?_, ?_, ?_⟩ <;> decide

end Cert.Pre_routed_ReferenceIdeal

namespace Cert.Routing

open Idealize.ShloMosaic Cert.Pre_routed_KernelIdeal

/-- A magnitude below some bound is a real number's. -/
theorem real_of_below {a b : EReal} (h : Ideal.cmp .olt (max a (-a)) b = 1#1) : ∃ t : ℝ, a = t := by
  have hlt : max a (-a) < b := by
    by_contra hn
    simp [Ideal.cmp, hn] at h
  refine real_of_abs ?_ ?_
  · rintro rfl
    simp at hlt
  · rintro rfl
    simp at hlt

/-- A word that is at least zero and below 32 is an expert's number. -/
theorem expert_of_word {u : BitVec 32} (h : IntOp.andi (IntOp.cmpi .sge u 0#32) (IntOp.cmpi .slt u 32#32) = 1#1) :
    ∃ e : Fin 32, u = BitVec.ofNat 32 e.val := by
  have h' := (WordCmp.andi_sge_zero_slt_ofNat (w := 32) (k := 32) (by decide) u).symm.trans h
  have hu : u.toNat < 32 := by
    by_contra hn
    simp [hn] at h'
  exact ⟨⟨u.toNat, hu⟩, by simp⟩

instance : Subsingleton S_.Idx := ⟨fun a b => funext fun d => d.elim0⟩

variable [Facts] {x : FVec Ideal S1024x256 .f32} {r : FVec Ideal S256x32 .f32} {i : IVec S1024x2 32} {w : FVec Ideal S4x256x512 .f32}

/-- The three tests the precondition joins. -/
theorem tests (h : fn (F := Ideal) x r i w = fun _ => 1#1) :
    (∀ j, IntOp.andi (IntOp.cmpi .sge (i j) 0#32) (IntOp.cmpi .slt (i j) 32#32) = 1#1)
      ∧ (∀ j, Ideal.cmp .olt (max (x j) (-(x j))) (Ideal.ofBits .f32 0x7F800000#32) = 1#1)
      ∧ ∀ j, Ideal.cmp .olt (max (r j) (-(r j))) (Ideal.ofBits .f32 0x7F800000#32) = 1#1 := by
  have h' := congrFun h ix0
  obtain ⟨h₁, h₂⟩ := IntOp.andi_eq_one.mp h'
  obtain ⟨h₃, h₄⟩ := IntOp.andi_eq_one.mp h₁
  exact ⟨fun j => Host.reduce_andi_all _ _ _ _ _ h₃ j, fun j => Host.reduce_andi_all _ _ _ _ _ h₄ j,
    fun j => Host.reduce_andi_all _ _ _ _ _ h₂ j⟩

/-- Every expert number names an expert; every token coordinate and every router weight is a real number. -/
theorem routed_apply (h : fn (F := Ideal) x r i w = fun _ => 1#1) :
    (∀ j, ∃ e : Fin 32, i j = BitVec.ofNat 32 e.val) ∧ (∀ j, ∃ t : ℝ, x j = t) ∧ ∀ j, ∃ t : ℝ, r j = t :=
  ⟨fun j => expert_of_word ((tests h).1 j), fun j => real_of_below ((tests h).2.1 j), fun j => real_of_below ((tests h).2.2 j)⟩

end Cert.Routing

end
-- ==== Proof.Value.Equation.lean ====
/-
The equation: what each device ends with is its block of rows of the reference's result.
-/
module

public import proofs.«01_k».proof.Proof.KernelIdeal.Final
public import proofs.«01_k».proof.Proof.Value.Block
public import proofs.«01_k».proof.Proof.Value.Reference
public import proofs.«01_k».proof.Proof.Value.Routed
public import Idealize.ShloMosaic.Lib.Layout

@[expose] public section

noncomputable section

namespace Cert.Equation

open Cert.KernelIdeal Cert.KernelIdeal.Gen Cert.KernelIdeal.Exchange Cert.Routing
open Idealize.ShloMosaic Idealize.ShloMosaic.TcCoe

variable (m : (ℓ : Loc nD τ sig) → Buf (Elt Ideal) ℓ) (ρ : Dev nD → PrngReg)
variable (x : FVec Ideal ⟨2, ![8192, 256]⟩ .f32) (r : FVec Ideal ⟨2, ![256, 32]⟩ .f32) (i : IVec ⟨2, ![8192, 2]⟩ 32)
  (w : FVec Ideal ⟨3, ![32, 256, 512]⟩ .f32)

/-- Every device's arguments are its part of the whole arrays. -/
def Parts : Prop := ∀ c : Dev nD,
  m ((c.tc : Thread nD τ).loc main_arg0) = Layout.block ⟨2, ![1024, 256]⟩ ⟨2, ![8192, 256]⟩ 0 8 c x
    ∧ m ((c.tc : Thread nD τ).loc main_arg1) = r
    ∧ m ((c.tc : Thread nD τ).loc main_arg2) = Layout.block ⟨2, ![1024, 2]⟩ ⟨2, ![8192, 2]⟩ 0 8 c i
    ∧ m ((c.tc : Thread nD τ).loc main_arg3) = Layout.block ⟨3, ![4, 256, 512]⟩ ⟨3, ![32, 256, 512]⟩ 0 8 c w

/-- The number, among all tokens, of token `t` of device `c`. -/
def row (c : Fin 8) (t : Fin 1024) : Fin 8192 := ⟨c.val * 1024 + t.val, by omega⟩

variable {m ρ x r i w}

theorem x_apply (h : Parts m x r i w) (c : Dev nD) (t : Fin 1024) (k : Fin 256) : (pt m ρ c).x (ix2 t k) = x (ix2 (row c t) k) := by
  show xIn m ρ c (ix2 t k) = _
  rw [xIn_eq, (h c).1]
  exact congrArg x (funext fun b => match b with | ⟨0, _⟩ => rfl | ⟨1, _⟩ => rfl)

theorem r_apply (h : Parts m x r i w) (c : Dev nD) (k : Fin 256) (e : Fin 32) : (pt m ρ c).r (ix2 k e) = r (ix2 k e) := by
  show rIn m ρ c (ix2 k e) = _
  rw [rIn_eq, (h c).2.1]

theorem i_apply (h : Parts m x r i w) (c : Dev nD) (t : Fin 1024) (j : Fin 2) : (pt m ρ c).i (ix2 t j) = i (ix2 (row c t) j) := by
  show iIn m ρ c (ix2 t j) = _
  rw [iIn_eq, (h c).2.2.1]
  exact congrArg i (funext fun b => match b with | ⟨0, _⟩ => rfl | ⟨1, _⟩ => rfl)

/-- Rounding to fewer bits changes nothing here. -/
theorem rounded_apply (v : FVec Ideal S4x256x512 .f32) (j : Fin 4) (k : Fin 256) (l : Fin 512) : k0_pay2 (F := Ideal) v (ix3 j k l) = (v (ix3 j k l) : EReal) := by
  pointwise [k0_pay2]

/-- Expert `e`'s weights are those of expert `e mod 4` of device `e / 4`. -/
theorem w_apply (h : Parts m x r i w) (c : Dev nD) (l : Fin 512) (e : Fin 32) (k : Fin 256) :
    (pt m ρ c).weight l e k = w (ix3 e k l) := by
  show k0_pay2 (eIn m ρ _) (ix3 _ k l) = _
  rw [rounded_apply, eIn_eq, (h _).2.2.2]
  refine congrArg w (funext fun b => match b with | ⟨0, _⟩ => Fin.ext ?_ | ⟨1, _⟩ => rfl | ⟨2, _⟩ => rfl)
  show e.val / 4 * 4 + e.val % 4 = e.val
  omega

/-- Device `c`'s result is block `c` of the reference's, when every device's arguments pass the precondition. -/
theorem out_eq [Cert.Pre_routed_KernelIdeal.Facts] (h : Parts m x r i w)
    (hp : ∀ c : Dev nD, Cert.Pre_routed_KernelIdeal.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) (c : Dev nD) :
    (pt m ρ c).out = Layout.block ⟨2, ![1024, 512]⟩ ⟨2, ![8192, 512]⟩ 0 8 c (Cert.ReferenceIdeal.Routed.result x r i w) := by
  obtain ⟨hi, hx, hr⟩ := routed_apply (hp c)
  have ex : ∀ t k, ∃ s : ℝ, (pt m ρ c).token t k = s := fun t k => by
    show ∃ s : ℝ, @Eq EReal (xIn m ρ c (ix2 t k)) s
    rw [xIn_eq]; exact hx _
  have er : ∀ k e, ∃ s : ℝ, (pt m ρ c).router k e = s := fun k e => by
    show ∃ s : ℝ, @Eq EReal (rIn m ρ c (ix2 k e)) s
    rw [rIn_eq]; exact hr _
  have ei : ∀ t j, ∃ e : Fin 32, (pt m ρ c).i (ix2 t j) = BitVec.ofNat 32 e.val := fun t j => by
    show ∃ e : Fin 32, iIn m ρ c (ix2 t j) = BitVec.ofNat 32 e.val
    rw [iIn_eq]; exact hi _
  funext j
  obtain ⟨t, l, rfl⟩ : ∃ (t : Fin 1024) (l : Fin 512), j = ix2 t l :=
    ⟨j 0, j 1, funext fun b => match b with | ⟨0, _⟩ => rfl | ⟨1, _⟩ => rfl⟩
  obtain ⟨e₀, h₀⟩ := ei t 0
  obtain ⟨e₁, h₁⟩ := ei t 1
  have ht : (pt m ρ c).token t = Cert.ReferenceIdeal.Routed.token x (row c t) := funext fun k => x_apply h c t k
  have hrt : (pt m ρ c).router = Cert.ReferenceIdeal.Routed.router r := funext fun k => funext fun e => r_apply h c k e
  have hw : (pt m ρ c).weight l = Cert.ReferenceIdeal.Routed.weight w l := funext fun e => funext fun k => w_apply h c l e k
  rw [Point.out_value _ (ex t) er h₀ h₁ l, ht, hrt, hw]
  rw [i_apply h] at h₀ h₁
  refine (Cert.ReferenceIdeal.Routed.result_apply x r i w h₀ h₁ l).symm.trans ?_
  exact congrArg (Cert.ReferenceIdeal.Routed.result x r i w) (funext fun b => match b with | ⟨0, _⟩ => rfl | ⟨1, _⟩ => rfl)

end Cert.Equation

end
-- ==== Proof.lean ====
/-
The claims: the kernel and its reading over the extended reals end on every device, leaving their arguments as they were and
every counter at zero; so does the reference; and over the extended reals each device's result is its block of rows of the
reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Final
public import proofs.«01_k».proof.Proof.KernelIdeal.Final
public import proofs.«01_k».proof.Proof.Value.Whole
public import proofs.«01_k».proof.Proof.Value.Equation
public import Idealize.ShloMosaic.Adequacy
public import Idealize.ShloMosaic.Init

@[expose] public section

noncomputable section

namespace Cert.Proof

open Idealize.ShloMosaic Idealize.SL.Sem

/-- The kernel as compiled ends everywhere, arguments unchanged, counters at zero. -/
theorem frame_kernel : Cert.quiescent_Kernel := fun m ρ _ =>
  (θ_run Cert.Kernel.defs _ _).mono (fun _ h => ⟨fun c => (h.1 c).2, h.2⟩) (Cert.Kernel.Exchange.ends (F := Bits) m ρ)

/-- So does its reading over the extended reals. -/
theorem frame_kernelIdeal : Cert.quiescent_KernelIdeal := fun m ρ _ =>
  (θ_run Cert.KernelIdeal.defs _ _).mono (fun _ h => ⟨fun c => (h.1 c).2, h.2⟩) (Cert.KernelIdeal.Exchange.ends (F := Ideal) m ρ)

/-- The reference ends with its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's frame again, of memories that pass the precondition. -/
theorem frame_kernelIdeal_routed [hPre_routed_KernelIdeal : Cert.Pre_routed_KernelIdeal.Facts] : Cert.quiescent_KernelIdeal_pre_routed_KernelIdeal := fun m ρ _ =>
  (θ_run Cert.KernelIdeal.defs _ _).mono (fun _ h => ⟨fun c => (h.1 c).2, h.2⟩) (Cert.KernelIdeal.Exchange.ends (F := Ideal) m ρ)

/-- The reference's frame again, of memories that pass the precondition. -/
theorem frame_reference_routed [hPre_routed_ReferenceIdeal : Cert.Pre_routed_ReferenceIdeal.Facts] : Cert.quiescent_ReferenceIdeal_pre_routed_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that are parts of the same whole arrays and pass the precondition, the kernel leaves on each device its
block of rows of what the reference leaves. -/
theorem algebraic [hPre_routed_KernelIdeal : Cert.Pre_routed_KernelIdeal.Facts] : Cert.algebraic_KernelIdeal_ReferenceIdeal_pre_routed_KernelIdeal := by
  intro m g m' g' hp hm
  refine ⟨Cert.ReferenceIdeal.Value.res_out0 m' 0, ?_, ?_⟩
  · refine (θ_run Cert.KernelIdeal.defs _ _).mono (fun r h c => ⟨?_, (h.1 c).2⟩) (Cert.KernelIdeal.Exchange.ends (F := Ideal) m g)
    refine (h.1 c).1.trans ?_
    rw [Cert.ReferenceIdeal.Routed.res_eq]
    exact Cert.Equation.out_eq hm hp c
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.Pre_routed_KernelIdeal.shapes,
    Cert.Pre_routed_ReferenceIdeal.shapes, frame_kernel, frame_kernelIdeal,
    frame_kernelIdeal_routed (hPre_routed_KernelIdeal := Cert.Pre_routed_KernelIdeal.shapes), frame_reference,
    frame_reference_routed (hPre_routed_ReferenceIdeal := Cert.Pre_routed_ReferenceIdeal.shapes), trivial,
    algebraic (hPre_routed_KernelIdeal := Cert.Pre_routed_KernelIdeal.shapes)⟩

end Cert.Proof

end
